-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score_unit" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S8x8192x256 : Shape := ⟨3, ![8, 8192, 256]⟩
abbrev S16 : Shape := ⟨1, ![16]⟩
abbrev S4 : Shape := ⟨1, ![4]⟩
abbrev S4x4 : Shape := ⟨2, ![4, 4]⟩
abbrev S1x256x256 : Shape := ⟨3, ![1, 256, 256]⟩
abbrev S1x8192x256 : Shape := ⟨3, ![1, 8192, 256]⟩
abbrev S256x256 : Shape := ⟨2, ![256, 256]⟩
abbrev S1 : Shape := ⟨1, ![1]⟩
abbrev S1x256 : Shape := ⟨2, ![1, 256]⟩
abbrev S256 : Shape := ⟨1, ![256]⟩
abbrev S64x256 : Shape := ⟨2, ![64, 256]⟩
abbrev S256x64 : Shape := ⟨2, ![256, 64]⟩
abbrev S1x256x64 : Shape := ⟨3, ![1, 256, 64]⟩

abbrev nBuf : Space → Nat
  | .hbm => 10
  | .vmem => 8
  | .smem => 2
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S4x4, .f32⟩
  | .hbm, ⟨7, _⟩ => ⟨S16, .f32⟩
  | .hbm, ⟨8, _⟩ => ⟨S16, .f32⟩
  | .hbm, ⟨9, _⟩ => ⟨S8x8192x1024, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x8192x256, .fp8e4m3⟩
  | .local _ .vmem, ⟨3, _⟩ => ⟨S1x8192x256, .fp8e4m3⟩
  | .local _ .vmem, ⟨4, _⟩ => ⟨S1x8192x256, .fp8e4m3⟩
  | .local _ .vmem, ⟨5, _⟩ => ⟨S1x8192x256, .fp8e4m3⟩
  | .local _ .vmem, ⟨6, _⟩ => ⟨S1x256x256, .bf16⟩
  | .local _ .vmem, ⟨7, _⟩ => ⟨S1x256x256, .bf16⟩
  | .local _ .smem, ⟨0, _⟩ => ⟨S16, .f32⟩
  | .local _ .smem, ⟨1, _⟩ => ⟨S4, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 32, 4], ![false, false, false]⟩

def k0_off1 (i : grid0.Coords) (c0_i32_9 : BitVec 32) : Fin 1 → Nat :=
  let arg2 : BitVec 32 := BitVec.ofNat 32 (i 2).val
  let c4_i32 : BitVec 32 := 4#32
  let v36 : BitVec 32 := Scalar.muli arg2 c4_i32
  let v37 : BitVec 32 := Scalar.addi v36 c0_i32_9
  let v38 : Index := Scalar.indexCast v37
  ![v38.toNat]
@[reducible] def k0_t1_loop (i : grid0.Coords) : Scf.Loop 32 :=
  let c0_i32_14 : BitVec 32 := 0#32
  let arg1 : BitVec 32 := BitVec.ofNat 32 (i 1).val
  let v44 : BitVec 32 := Scalar.subi arg1 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_16 : BitVec 32 := 1#32
  ⟨c0_i32_14, v48, c1_i32_16⟩
def k0_off2 (i : grid0.Coords) (k0_t1 : Fin (k0_t1_loop i).trips) : Fin 3 → Nat :=
  let c0_156 : Index := 0#32
  let c0_i32_14 : BitVec 32 := 0#32
  let c1_i32_16 : BitVec 32 := 1#32
  let arg9 : BitVec 32 := Scf.iv c0_i32_14 c1_i32_16 k0_t1
  let c256_i32_155 : BitVec 32 := 256#32
  let v430 : BitVec 32 := Scalar.muli arg9 c256_i32_155
  let v431 : Index := Scalar.indexCast v430
  let c0_157 : Index := 0#32
  ![0, v431.toNat, 0]
@[reducible] def k0_t2_loop (i : grid0.Coords) : Scf.Loop 32 :=
  let c0_i32_14 : BitVec 32 := 0#32
  let arg1 : BitVec 32 := BitVec.ofNat 32 (i 1).val
  let v44 : BitVec 32 := Scalar.subi arg1 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let v45 : BitVec 32 := Scalar.addi c0_i32_14 v44
  let c1_i32_17 : BitVec 32 := 1#32
  ⟨v48, v45, c1_i32_17⟩
def k0_off3 (i : grid0.Coords) (k0_t2 : Fin (k0_t2_loop i).trips) : Fin 3 → Nat :=
  let c0_156 : Index := 0#32
  let c0_i32_14 : BitVec 32 := 0#32
  let arg1 : BitVec 32 := BitVec.ofNat 32 (i 1).val
  let v44 : BitVec 32 := Scalar.subi arg1 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg9 : BitVec 32 := Scf.iv v48 c1_i32_17 k0_t2
  let c256_i32_155 : BitVec 32 := 256#32
  let v430 : BitVec 32 := Scalar.muli arg9 c256_i32_155
  let v431 : Index := Scalar.indexCast v430
  let c0_157 : Index := 0#32
  ![0, v431.toNat, 0]
def k0_off4 (i : grid0.Coords) : Fin 3 → Nat :=
  let c0_19 : Index := 0#32
  let arg1 : BitVec 32 := BitVec.ofNat 32 (i 1).val
  let c256_i32_18 : BitVec 32 := 256#32
  let v51 : BitVec 32 := Scalar.muli arg1 c256_i32_18
  let v52 : Index := Scalar.indexCast v51
  let c0_20 : Index := 0#32
  ![0, v52.toNat, 0]
def k0_off5 (i : grid0.Coords) : Fin 1 → Nat :=
  let arg2 : BitVec 32 := BitVec.ofNat 32 (i 2).val
  let v85 : Index := Scalar.indexCast arg2
  ![v85.toNat]
@[reducible] def k0_t3_loop (i : grid0.Coords) : Scf.Loop 32 :=
  let c0_i32_53 : BitVec 32 := 0#32
  let arg1 : BitVec 32 := BitVec.ofNat 32 (i 1).val
  let v151 : BitVec 32 := Scalar.subi arg1 c0_i32_53
  let c1_i32_54 : BitVec 32 := 1#32
  let v153 : BitVec 32 := Scalar.divsi v151 c1_i32_54
  let v154 : BitVec 32 := Scalar.muli v153 c1_i32_54
  let v155 : BitVec 32 := Scalar.addi c0_i32_53 v154
  let c1_i32_55 : BitVec 32 := 1#32
  ⟨c0_i32_53, v155, c1_i32_55⟩
def k0_off6 (i : grid0.Coords) (k0_t3 : Fin (k0_t3_loop i).trips) : Fin 3 → Nat :=
  let c0_156 : Index := 0#32
  let c0_i32_53 : BitVec 32 := 0#32
  let c1_i32_55 : BitVec 32 := 1#32
  let arg9 : BitVec 32 := Scf.iv c0_i32_53 c1_i32_55 k0_t3
  let c256_i32_155 : BitVec 32 := 256#32
  let v430 : BitVec 32 := Scalar.muli arg9 c256_i32_155
  let v431 : Index := Scalar.indexCast v430
  let c0_157 : Index := 0#32
  ![0, v431.toNat, 0]
@[reducible] def k0_t4_loop (i : grid0.Coords) : Scf.Loop 32 :=
  let c0_i32_53 : BitVec 32 := 0#32
  let arg1 : BitVec 32 := BitVec.ofNat 32 (i 1).val
  let v151 : BitVec 32 := Scalar.subi arg1 c0_i32_53
  let c1_i32_54 : BitVec 32 := 1#32
  let v153 : BitVec 32 := Scalar.divsi v151 c1_i32_54
  let v154 : BitVec 32 := Scalar.muli v153 c1_i32_54
  let v155 : BitVec 32 := Scalar.addi c0_i32_53 v154
  let v152 : BitVec 32 := Scalar.addi c0_i32_53 v151
  let c1_i32_56 : BitVec 32 := 1#32
  ⟨v155, v152, c1_i32_56⟩
def k0_off7 (i : grid0.Coords) (k0_t4 : Fin (k0_t4_loop i).trips) : Fin 3 → Nat :=
  let c0_156 : Index := 0#32
  let c0_i32_53 : BitVec 32 := 0#32
  let arg1 : BitVec 32 := BitVec.ofNat 32 (i 1).val
  let v151 : BitVec 32 := Scalar.subi arg1 c0_i32_53
  let c1_i32_54 : BitVec 32 := 1#32
  let v153 : BitVec 32 := Scalar.divsi v151 c1_i32_54
  let v154 : BitVec 32 := Scalar.muli v153 c1_i32_54
  let v155 : BitVec 32 := Scalar.addi c0_i32_53 v154
  let c1_i32_56 : BitVec 32 := 1#32
  let arg9 : BitVec 32 := Scf.iv v155 c1_i32_56 k0_t4
  let c256_i32_155 : BitVec 32 := 256#32
  let v430 : BitVec 32 := Scalar.muli arg9 c256_i32_155
  let v431 : Index := Scalar.indexCast v430
  let c0_157 : Index := 0#32
  ![0, v431.toNat, 0]
@[reducible] def k0_t5_loop (i : grid0.Coords) : Scf.Loop 32 :=
  let c0_i32_93 : BitVec 32 := 0#32
  let arg1 : BitVec 32 := BitVec.ofNat 32 (i 1).val
  let v258 : BitVec 32 := Scalar.subi arg1 c0_i32_93
  let c1_i32_94 : BitVec 32 := 1#32
  let v260 : BitVec 32 := Scalar.divsi v258 c1_i32_94
  let v261 : BitVec 32 := Scalar.muli v260 c1_i32_94
  let v262 : BitVec 32 := Scalar.addi c0_i32_93 v261
  let c1_i32_95 : BitVec 32 := 1#32
  ⟨c0_i32_93, v262, c1_i32_95⟩
def k0_off8 (i : grid0.Coords) (k0_t5 : Fin (k0_t5_loop i).trips) : Fin 3 → Nat :=
  let c0_156 : Index := 0#32
  let c0_i32_93 : BitVec 32 := 0#32
  let c1_i32_95 : BitVec 32 := 1#32
  let arg9 : BitVec 32 := Scf.iv c0_i32_93 c1_i32_95 k0_t5
  let c256_i32_155 : BitVec 32 := 256#32
  let v430 : BitVec 32 := Scalar.muli arg9 c256_i32_155
  let v431 : Index := Scalar.indexCast v430
  let c0_157 : Index := 0#32
  ![0, v431.toNat, 0]
@[reducible] def k0_t6_loop (i : grid0.Coords) : Scf.Loop 32 :=
  let c0_i32_93 : BitVec 32 := 0#32
  let arg1 : BitVec 32 := BitVec.ofNat 32 (i 1).val
  let v258 : BitVec 32 := Scalar.subi arg1 c0_i32_93
  let c1_i32_94 : BitVec 32 := 1#32
  let v260 : BitVec 32 := Scalar.divsi v258 c1_i32_94
  let v261 : BitVec 32 := Scalar.muli v260 c1_i32_94
  let v262 : BitVec 32 := Scalar.addi c0_i32_93 v261
  let v259 : BitVec 32 := Scalar.addi c0_i32_93 v258
  let c1_i32_96 : BitVec 32 := 1#32
  ⟨v262, v259, c1_i32_96⟩
def k0_off9 (i : grid0.Coords) (k0_t6 : Fin (k0_t6_loop i).trips) : Fin 3 → Nat :=
  let c0_156 : Index := 0#32
  let c0_i32_93 : BitVec 32 := 0#32
  let arg1 : BitVec 32 := BitVec.ofNat 32 (i 1).val
  let v258 : BitVec 32 := Scalar.subi arg1 c0_i32_93
  let c1_i32_94 : BitVec 32 := 1#32
  let v260 : BitVec 32 := Scalar.divsi v258 c1_i32_94
  let v261 : BitVec 32 := Scalar.muli v260 c1_i32_94
  let v262 : BitVec 32 := Scalar.addi c0_i32_93 v261
  let c1_i32_96 : BitVec 32 := 1#32
  let arg9 : BitVec 32 := Scf.iv v262 c1_i32_96 k0_t6
  let c256_i32_155 : BitVec 32 := 256#32
  let v430 : BitVec 32 := Scalar.muli arg9 c256_i32_155
  let v431 : Index := Scalar.indexCast v430
  let c0_157 : Index := 0#32
  ![0, v431.toNat, 0]
@[reducible] def k0_t7_loop (i : grid0.Coords) : Scf.Loop 32 :=
  let c0_i32_133 : BitVec 32 := 0#32
  let arg1 : BitVec 32 := BitVec.ofNat 32 (i 1).val
  let v365 : BitVec 32 := Scalar.subi arg1 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_135 : BitVec 32 := 1#32
  ⟨c0_i32_133, v369, c1_i32_135⟩
def k0_off10 (i : grid0.Coords) (k0_t7 : Fin (k0_t7_loop i).trips) : Fin 3 → Nat :=
  let c0_156 : Index := 0#32
  let c0_i32_133 : BitVec 32 := 0#32
  let c1_i32_135 : BitVec 32 := 1#32
  let arg9 : BitVec 32 := Scf.iv c0_i32_133 c1_i32_135 k0_t7
  let c256_i32_155 : BitVec 32 := 256#32
  let v430 : BitVec 32 := Scalar.muli arg9 c256_i32_155
  let v431 : Index := Scalar.indexCast v430
  let c0_157 : Index := 0#32
  ![0, v431.toNat, 0]
@[reducible] def k0_t8_loop (i : grid0.Coords) : Scf.Loop 32 :=
  let c0_i32_133 : BitVec 32 := 0#32
  let arg1 : BitVec 32 := BitVec.ofNat 32 (i 1).val
  let v365 : BitVec 32 := Scalar.subi arg1 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let v366 : BitVec 32 := Scalar.addi c0_i32_133 v365
  let c1_i32_136 : BitVec 32 := 1#32
  ⟨v369, v366, c1_i32_136⟩
def k0_off11 (i : grid0.Coords) (k0_t8 : Fin (k0_t8_loop i).trips) : Fin 3 → Nat :=
  let c0_156 : Index := 0#32
  let c0_i32_133 : BitVec 32 := 0#32
  let arg1 : BitVec 32 := BitVec.ofNat 32 (i 1).val
  let v365 : BitVec 32 := Scalar.subi arg1 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg9 : BitVec 32 := Scf.iv v369 c1_i32_136 k0_t8
  let c256_i32_155 : BitVec 32 := 256#32
  let v430 : BitVec 32 := Scalar.muli arg9 c256_i32_155
  let v431 : Index := Scalar.indexCast v430
  let c0_157 : Index := 0#32
  ![0, v431.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "score_unit" => some (((1 / 8) * (Real.log 2)⁻¹ : ℝ) : EReal)
  | _ => none
-- ==== ReferenceIdeal.lean ====
abbrev S8x8192x1024 : Shape := ⟨3, ![8, 8192, 1024]⟩
abbrev S8x8192x256 : Shape := ⟨3, ![8, 8192, 256]⟩
abbrev S16 : Shape := ⟨1, ![16]⟩
abbrev S4 : Shape := ⟨1, ![4]⟩
abbrev S8x8192x4x4x64 : Shape := ⟨5, ![8, 8192, 4, 4, 64]⟩
abbrev S8x4x4x8192x64 : Shape := ⟨5, ![8, 4, 4, 8192, 64]⟩
abbrev S32x32768x64 : Shape := ⟨3, ![32, 32768, 64]⟩
abbrev S8x8192x4x64 : Shape := ⟨4, ![8, 8192, 4, 64]⟩
abbrev S8x4x8192x64 : Shape := ⟨4, ![8, 4, 8192, 64]⟩
abbrev S32x8192x64 : Shape := ⟨3, ![32, 8192, 64]⟩
abbrev S4x4 : Shape := ⟨2, ![4, 4]⟩
abbrev S4x1 : Shape := ⟨2, ![4, 1]⟩
abbrev S32x32768x8192 : Shape := ⟨3, ![32, 32768, 8192]⟩
abbrev S8x4x4x8192x8192 : Shape := ⟨5, ![8, 4, 4, 8192, 8192]⟩
abbrev S4x4x1x1 : Shape := ⟨4, ![4, 4, 1, 1]⟩
abbrev S1x4x4x1x1 : Shape := ⟨5, ![1, 4, 4, 1, 1]⟩
abbrev S8192x8192 : Shape := ⟨2, ![8192, 8192]⟩
abbrev S1x1x1x8192x8192 : Shape := ⟨5, ![1, 1, 1, 8192, 8192]⟩
abbrev S8x4x4x8192 : Shape := ⟨4, ![8, 4, 4, 8192]⟩
abbrev S8x4x4x8192x1 : Shape := ⟨5, ![8, 4, 4, 8192, 1]⟩
abbrev S4x1x1x1 : Shape := ⟨4, ![4, 1, 1, 1]⟩
abbrev S1x4x1x1x1 : Shape := ⟨5, ![1, 4, 1, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S8x8192x1024, .bf16⟩
  | .local _ .vmem, ⟨0, _⟩ => ⟨S8x8192x1024, .fp8e4m3⟩
  | .local _ .vmem, ⟨1, _⟩ => ⟨S8x8192x256, .fp8e4m3⟩
  | .local _ .vmem, ⟨2, _⟩ => ⟨S8x8192x256, .fp8e4m3⟩
  | .local _ .vmem, ⟨3, _⟩ => ⟨S16, .f32⟩
  | .local _ .vmem, ⟨4, _⟩ => ⟨S4, .f32⟩
  | .local _ .vmem, ⟨5, _⟩ => ⟨S4, .f32⟩
  | .local _ .vmem, ⟨6, _⟩ => ⟨S8x8192x1024, .bf16⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Attn.Block.lean ====
/- What one grid point of the kernel stores, said once for its four query heads: the loop over whole key tiles as a
   recursion on the carried maximum, sum and weighted values, then the masked diagonal tile. -/
module

public import proofs.«01_k».proof.Proof.Gen.KernelIdeal.Value
public import Idealize.ShloMosaic.Lib.Pointwise

@[expose] public section

noncomputable section

namespace Cert.KernelIdeal.Gen

open Idealize.ShloMosaic Idealize.ShloMosaic.TcCoe

variable {F : FTy → Type} [FloatOps F] [Named F]

/-- The three values a head carries from key tile to key tile: running maximum, running sum, running weighted values. -/
abbrev State (F : FTy → Type) : Type := FVec F S1x256 .f32 × FVec F S1x256 .f32 × FVec F S256x256 .f32

/-- Rows `256 j … 256 j + 255` of a batch's keys or values. -/
def tile (X : Vec F S1x8192x256 .fp8e4m3) (j : ℕ) : Vec F S1x256x256 .fp8e4m3 := fun y =>
  X (ix3 0 ⟨(256 * j + (y 1).val) % 8192, Nat.mod_lt _ (by norm_num)⟩ (y 2))

/-- One key tile folded into the carried values. -/
def stepK (q : FVec F S256x256 .fp8e4m3) (c : Elt F .f32) (kb vb : Vec F S1x256x256 .fp8e4m3) (s : State F) : State F :=
  (k0_pay9 q c s.1 kb, k0_pay12 q c s.1 s.2.1 kb, k0_pay13 q c s.1 s.2.2 kb vb)

/-- The carried values before key tile `j`. -/
def carry (q : FVec F S256x256 .fp8e4m3) (c : Elt F .f32) (K V : Vec F S1x8192x256 .fp8e4m3) : ℕ → State F
  | 0 => (k0_pay5, k0_pay6, k0_pay7)
  | j + 1 => stepK q c (tile K j) (tile V j) (carry q c K V j)

/-- The block a head stores: the diagonal tile (number `n`) folded into the values carried over the `n` tiles before it,
    the quotient, and the 64 rows of the grid point's key head. -/
def headOut (a2 : BitVec 32) (n : ℕ) (q : FVec F S256x256 .fp8e4m3) (c vs : Elt F .f32) (K V : Vec F S1x8192x256 .fp8e4m3) :
    FVec F S1x256x64 .bf16 :=
  k0_pay27 a2 (carry q c K V n).2.2 (k0_pay20 (tile V n)) (k0_pay24 q c (carry q c K V n).1 (tile K n))
    (k0_pay25 q c (carry q c K V n).1 (carry q c K V n).2.1 (tile K n)) (k0_pay26 q c (carry q c K V n).1 (tile K n))
    (constant S256x256 .f32 0x00000000#32) vs

/-- The quotient of the lane number by 64, as the kernel computes it (a floor division). -/
def laneHead : IVec S256x256 32 :=
  select
    (andi
      (cmpi .ne
        (subi (extui 32 (cmpi .sgt (iota .tc S256x256 32 [1] iota_S256x256_d1_w32) (broadcast S256x256 0#32)) natLt_1_32)
          (extui 32 (cmpi .slt (iota .tc S256x256 32 [1] iota_S256x256_d1_w32) (broadcast S256x256 0#32)) natLt_1_32))
        (broadcast S256x256 (Scalar.subi (Scalar.extui (Scalar.cmpi .sgt 64#32 0#32)) (Scalar.extui (Scalar.cmpi .slt 64#32 0#32)))))
      (cmpi .ne (remsi (iota .tc S256x256 32 [1] iota_S256x256_d1_w32) (broadcast S256x256 64#32)) (broadcast S256x256 0#32)))
    (subi (divsi (iota .tc S256x256 32 [1] iota_S256x256_d1_w32) (broadcast S256x256 64#32)) (broadcast S256x256 1#32))
    (divsi (iota .tc S256x256 32 [1] iota_S256x256_d1_w32) (broadcast S256x256 64#32))

/-- The queries of head `g` of the block, moved to the lanes of key head `a2`, every other lane zero. -/
def headQ (g a2 : BitVec 32) (x : Vec F S1x256x256 .fp8e4m3) : FVec F S256x256 .fp8e4m3 :=
  select (cmpi .eq laneHead (broadcast S256x256 a2))
    (dynamicRotate 1 (Scalar.remsi (Scalar.addi (Scalar.muli (Scalar.subi a2 g) 64#32) 256#32) 256#32) none (k0_pay2 x)
      rotates_S256x256_d1)
    (broadcast S256x256 (Scalar.ofBits .fp8e4m3 0x00#8 : F .fp8e4m3))

/-- The loop over whole tiles runs as many times as the query tile's number. -/
theorem trips_main (i : grid0.Coords) : (k0_t1_loop i).trips = (i 1).val := by
  have h : ∀ a : Fin 32, (Scf.trips (w := 32) 0#32 (Scalar.addi 0#32 (Scalar.muli (Scalar.divsi (Scalar.subi (BitVec.ofNat 32 a.val) 0#32) 1#32) 1#32)) 1#32) = a.val := by
    decide +kernel
  exact h (i 1)

/-- The loop over what the whole trips leave runs never. -/
theorem trips_rest (i : grid0.Coords) : (k0_t2_loop i).trips = 0 := by
  have h : ∀ a : Fin 32, (Scf.trips (w := 32) (Scalar.addi 0#32 (Scalar.muli (Scalar.divsi (Scalar.subi (BitVec.ofNat 32 a.val) 0#32) 1#32) 1#32)) (Scalar.addi 0#32 (Scalar.subi (BitVec.ofNat 32 a.val) 0#32)) 1#32) = 0 := by
    decide +kernel
  exact h (i 1)

/-- Trip `k` of the loop loads from row `256 k`. -/
theorem off_trip (i : grid0.Coords) (k : Fin (k0_t1_loop i).trips) : k0_off2 i k = ![0, 256 * k.val, 0] := by
  have h : ∀ a : Fin 32, (Scalar.indexCast (Scalar.muli (Scf.iv 0#32 1#32 a.val) 256#32) : BitVec 32).toNat = 256 * a.val := by
    decide +kernel
  have hk : k.val < 32 := lt_of_lt_of_eq k.isLt (trips_main i) |>.trans (i 1).isLt
  have := h ⟨k.val, hk⟩
  funext a
  fin_cases a
  · rfl
  · exact this
  · rfl

/-- The diagonal tile is loaded from row `256 n`, `n` the query tile's number. -/
theorem off_diag (i : grid0.Coords) : k0_off4 i = ![0, 256 * (i 1).val, 0] := by
  have h : ∀ a : Fin 32, (Scalar.indexCast (Scalar.muli (BitVec.ofNat 32 a.val) 256#32) : BitVec 32).toNat = 256 * a.val := by
    decide +kernel
  funext a
  fin_cases a
  · rfl
  · exact h (i 1)
  · rfl

/-- A load of 256 rows starting at row `256 j` reads tile `j`. -/
theorem load_tile {arg : Memref sig .tc .vmem S1x8192x256 .fp8e4m3} (harg : arg.IsWhole) (X : Vec F S1x8192x256 .fp8e4m3)
    (off : Fin 3 → ℕ) (inb : ∀ a, off a + (![1, 256, 256] : Fin 3 → ℕ) a ≤ S1x8192x256.size a) (j : ℕ) (hj : j < 32) (h : off = ![0, 256 * j, 0]) :
    View.readAt (Elt F) arg.view (Rect.unit (s := S1x8192x256) off ![1, 256, 256] inb).toLoadRect (harg.unread X) = tile X j := by
  subst h
  funext y
  show arg.view.read (Elt F) (harg.unread X) _ = _
  rw [harg.read_unread]
  unfold tile
  congr 1
  funext a
  apply Fin.ext
  have h1 : (y 1).val < 256 := (y 1).isLt
  have h0 : (y 0).val < 1 := (y 0).isLt
  match a with
  | ⟨0, _⟩ => show 0 + 1 * (y 0).val = 0; omega
  | ⟨1, _⟩ => show 256 * j + 1 * (y 1).val = (256 * j + (y 1).val) % 8192; omega
  | ⟨2, _⟩ => show 0 + 1 * (y 2).val = (y 2).val; omega

end Cert.KernelIdeal.Gen

end
-- ==== Proof.Attn.Loop.lean ====
/- The pieces one grid point stores, in the terms of `Attn.Block`: each head's loop is the recursion `carry`. -/
module

public import proofs.«01_k».proof.Proof.Attn.Block

@[expose] public section

noncomputable section

namespace Cert.KernelIdeal.Gen

open Idealize.ShloMosaic Idealize.ShloMosaic.TcCoe

variable {F : FTy → Type} [FloatOps F] [Named F]

variable (c : Dev nD) (i : grid0.Coords) (arg3 : Memref sig .tc .smem S16 .f32) (harg3 : arg3.IsWhole) (arg4 : Memref sig .tc .smem S4 .f32) (harg4 : arg4.IsWhole) (arg5 : Memref sig .tc .vmem S1x256x256 .fp8e4m3) (harg5 : arg5.IsWhole) (arg6 : Memref sig .tc .vmem S1x8192x256 .fp8e4m3) (harg6 : arg6.IsWhole) (arg7 : Memref sig .tc .vmem S1x8192x256 .fp8e4m3) (harg7 : arg7.IsWhole) (arg8 : Memref sig .tc .vmem S1x256x256 .bf16) (harg8 : arg8.IsWhole)

/-- One trip of the first head's loop folds one key tile. -/
theorem trip1_eq (arg1 : BitVec 32) (q : FVec F S256x256 .fp8e4m3) (sc : Elt F .f32) (K V : Vec F S1x8192x256 .fp8e4m3)
    (k : Fin (k0_t1_loop i).trips) (s : State F) :
    tripR_k0_t1 (F := F) Variants.none c none i arg3 harg3 arg4 harg4 arg5 harg5 arg6 harg6 arg7 harg7 arg8 harg8 arg1 q sc
      (harg6.unread K) (harg7.unread V) k s = stepK q sc (tile K k.val) (tile V k.val) s := by
  have hk : k.val < 32 := lt_of_lt_of_eq k.isLt (trips_main i) |>.trans (i 1).isLt
  have h6 := load_tile harg6 K (k0_off2 i k) (k0_off2_inb i k) k.val hk (off_trip i k)
  have h7 := load_tile harg7 V (k0_off2 i k) (k0_off2_inb i k) k.val hk (off_trip i k)
  rw [← h6, ← h7]
  unfold tripR_k0_t1 trip_k0_t1
  rfl

/-- What the first head's loop carries before trip `n`. -/
theorem st1_eq (arg1 : BitVec 32) (q : FVec F S256x256 .fp8e4m3) (sc : Elt F .f32) (K V : Vec F S1x8192x256 .fp8e4m3)
    (n : ℕ) (hn : n ≤ (k0_t1_loop i).trips) :
    st_k0_t1 (F := F) Variants.none c none i arg3 harg3 arg4 harg4 arg5 harg5 arg6 harg6 arg7 harg7 arg8 harg8 arg1 q sc
      (harg6.unread K) (harg7.unread V) (k0_pay5, k0_pay6, k0_pay7) n = carry q sc K V n := by
  induction n with
  | zero => rfl
  | succ n ih =>
    have := st_k0_t1_succ (F := F) Variants.none c none i arg3 harg3 arg4 harg4 arg5 harg5 arg6 harg6 arg7 harg7 arg8 harg8 arg1 q sc
      (harg6.unread K) (harg7.unread V) (k0_pay5, k0_pay6, k0_pay7) ⟨n, hn⟩
    refine this.trans ?_
    rw [trip1_eq]
    simp only
    rw [ih (Nat.le_of_succ_le hn)]
    rfl

/-- What the first head's loops leave: the values carried before the diagonal tile. -/
theorem loops1_eq (arg1 : BitVec 32) (q : FVec F S256x256 .fp8e4m3) (sc : Elt F .f32) (K V : Vec F S1x8192x256 .fp8e4m3) :
    st_k0_t2 (F := F) Variants.none c none i arg3 harg3 arg4 harg4 arg5 harg5 arg6 harg6 arg7 harg7 arg8 harg8 arg1 q sc
      (harg6.unread K) (harg7.unread V)
      (st_k0_t1 (F := F) Variants.none c none i arg3 harg3 arg4 harg4 arg5 harg5 arg6 harg6 arg7 harg7 arg8 harg8 arg1 q sc
        (harg6.unread K) (harg7.unread V) (k0_pay5, k0_pay6, k0_pay7) (Scf.trips (k0_t1_loop i).lb (k0_t1_loop i).ub (k0_t1_loop i).st))
      (Scf.trips (k0_t2_loop i).lb (k0_t2_loop i).ub (k0_t2_loop i).st) = carry q sc K V (i 1).val := by
  rw [show Scf.trips (k0_t2_loop i).lb (k0_t2_loop i).ub (k0_t2_loop i).st = 0 from trips_rest i]
  rw [show Scf.trips (k0_t1_loop i).lb (k0_t1_loop i).ub (k0_t1_loop i).st = (i 1).val from trips_main i]
  exact st1_eq c i arg3 harg3 arg4 harg4 arg5 harg5 arg6 harg6 arg7 harg7 arg8 harg8 arg1 q sc K V _ (trips_main i).ge

/-- One trip of the second head's loop folds one key tile. -/
theorem trip3_eq (arg1 arg2 : BitVec 32) (v : FVec F S256x256 .fp8e4m3) (l : IVec S256x256 32) (w : BitVec 32) (d e : IVec S256x256 32) (z : BitVec 32) (sc : Elt F .f32) (K V : Vec F S1x8192x256 .fp8e4m3)
    (k : Fin (k0_t3_loop i).trips) (s : State F) :
    tripR_k0_t3 (F := F) Variants.none c none i arg3 harg3 arg4 harg4 arg5 harg5 arg6 harg6 arg7 harg7 arg8 harg8 arg1 arg2 v l w d e z sc
      (harg6.unread K) (harg7.unread V) k s = stepK (k0_pay31 arg2 v l w d e z) sc (tile K k.val) (tile V k.val) s := by
  have hk : k.val < 32 := lt_of_lt_of_eq k.isLt (trips_main i) |>.trans (i 1).isLt
  have h6 := load_tile harg6 K (k0_off6 i k) (k0_off6_inb i k) k.val hk (off_trip i k)
  have h7 := load_tile harg7 V (k0_off6 i k) (k0_off6_inb i k) k.val hk (off_trip i k)
  rw [← h6, ← h7]
  unfold tripR_k0_t3 trip_k0_t3
  rfl

/-- What the second head's loop carries before trip `n`. -/
theorem st3_eq (arg1 arg2 : BitVec 32) (v : FVec F S256x256 .fp8e4m3) (l : IVec S256x256 32) (w : BitVec 32) (d e : IVec S256x256 32) (z : BitVec 32) (sc : Elt F .f32) (K V : Vec F S1x8192x256 .fp8e4m3)
    (n : ℕ) (hn : n ≤ (k0_t3_loop i).trips) :
    st_k0_t3 (F := F) Variants.none c none i arg3 harg3 arg4 harg4 arg5 harg5 arg6 harg6 arg7 harg7 arg8 harg8 arg1 arg2 v l w d e z sc
      (harg6.unread K) (harg7.unread V) (k0_pay33, k0_pay34, k0_pay35) n = carry (k0_pay31 arg2 v l w d e z) sc K V n := by
  induction n with
  | zero => rfl
  | succ n ih =>
    have := st_k0_t3_succ (F := F) Variants.none c none i arg3 harg3 arg4 harg4 arg5 harg5 arg6 harg6 arg7 harg7 arg8 harg8 arg1 arg2 v l w d e z sc
      (harg6.unread K) (harg7.unread V) (k0_pay33, k0_pay34, k0_pay35) ⟨n, hn⟩
    refine this.trans ?_
    rw [trip3_eq]
    simp only
    rw [ih (Nat.le_of_succ_le hn)]
    rfl

/-- What the second head's loops leave: the values carried before the diagonal tile. -/
theorem loops3_eq (arg1 arg2 : BitVec 32) (v : FVec F S256x256 .fp8e4m3) (l : IVec S256x256 32) (w : BitVec 32) (d e : IVec S256x256 32) (z : BitVec 32) (sc : Elt F .f32) (K V : Vec F S1x8192x256 .fp8e4m3) :
    st_k0_t4 (F := F) Variants.none c none i arg3 harg3 arg4 harg4 arg5 harg5 arg6 harg6 arg7 harg7 arg8 harg8 arg1 arg2 v l w d e z sc
      (harg6.unread K) (harg7.unread V)
      (st_k0_t3 (F := F) Variants.none c none i arg3 harg3 arg4 harg4 arg5 harg5 arg6 harg6 arg7 harg7 arg8 harg8 arg1 arg2 v l w d e z sc
        (harg6.unread K) (harg7.unread V) (k0_pay33, k0_pay34, k0_pay35) (Scf.trips (k0_t3_loop i).lb (k0_t3_loop i).ub (k0_t3_loop i).st))
      (Scf.trips (k0_t4_loop i).lb (k0_t4_loop i).ub (k0_t4_loop i).st) = carry (k0_pay31 arg2 v l w d e z) sc K V (i 1).val := by
  rw [show Scf.trips (k0_t4_loop i).lb (k0_t4_loop i).ub (k0_t4_loop i).st = 0 from trips_rest i]
  rw [show Scf.trips (k0_t3_loop i).lb (k0_t3_loop i).ub (k0_t3_loop i).st = (i 1).val from trips_main i]
  exact st3_eq c i arg3 harg3 arg4 harg4 arg5 harg5 arg6 harg6 arg7 harg7 arg8 harg8 arg1 arg2 v l w d e z sc K V _ (trips_main i).ge

/-- One trip of the third head's loop folds one key tile. -/
theorem trip5_eq (arg1 : BitVec 32) (q : FVec F S256x256 .fp8e4m3) (sc : Elt F .f32) (K V : Vec F S1x8192x256 .fp8e4m3)
    (k : Fin (k0_t5_loop i).trips) (s : State F) :
    tripR_k0_t5 (F := F) Variants.none c none i arg3 harg3 arg4 harg4 arg5 harg5 arg6 harg6 arg7 harg7 arg8 harg8 arg1 q (k0_pay4 sc)
      (harg6.unread K) (harg7.unread V) k s = stepK q sc (tile K k.val) (tile V k.val) s := by
  have hk : k.val < 32 := lt_of_lt_of_eq k.isLt (trips_main i) |>.trans (i 1).isLt
  have h6 := load_tile harg6 K (k0_off8 i k) (k0_off8_inb i k) k.val hk (off_trip i k)
  have h7 := load_tile harg7 V (k0_off8 i k) (k0_off8_inb i k) k.val hk (off_trip i k)
  rw [← h6, ← h7]
  unfold tripR_k0_t5 trip_k0_t5
  rfl

/-- What the third head's loop carries before trip `n`. -/
theorem st5_eq (arg1 : BitVec 32) (q : FVec F S256x256 .fp8e4m3) (sc : Elt F .f32) (K V : Vec F S1x8192x256 .fp8e4m3)
    (n : ℕ) (hn : n ≤ (k0_t5_loop i).trips) :
    st_k0_t5 (F := F) Variants.none c none i arg3 harg3 arg4 harg4 arg5 harg5 arg6 harg6 arg7 harg7 arg8 harg8 arg1 q (k0_pay4 sc)
      (harg6.unread K) (harg7.unread V) (k0_pay53, k0_pay54, k0_pay55) n = carry q sc K V n := by
  induction n with
  | zero => rfl
  | succ n ih =>
    have := st_k0_t5_succ (F := F) Variants.none c none i arg3 harg3 arg4 harg4 arg5 harg5 arg6 harg6 arg7 harg7 arg8 harg8 arg1 q (k0_pay4 sc)
      (harg6.unread K) (harg7.unread V) (k0_pay53, k0_pay54, k0_pay55) ⟨n, hn⟩
    refine this.trans ?_
    rw [trip5_eq]
    simp only
    rw [ih (Nat.le_of_succ_le hn)]
    rfl

/-- What the third head's loops leave: the values carried before the diagonal tile. -/
theorem loops5_eq (arg1 : BitVec 32) (q : FVec F S256x256 .fp8e4m3) (sc : Elt F .f32) (K V : Vec F S1x8192x256 .fp8e4m3) :
    st_k0_t6 (F := F) Variants.none c none i arg3 harg3 arg4 harg4 arg5 harg5 arg6 harg6 arg7 harg7 arg8 harg8 arg1 q (k0_pay4 sc)
      (harg6.unread K) (harg7.unread V)
      (st_k0_t5 (F := F) Variants.none c none i arg3 harg3 arg4 harg4 arg5 harg5 arg6 harg6 arg7 harg7 arg8 harg8 arg1 q (k0_pay4 sc)
        (harg6.unread K) (harg7.unread V) (k0_pay53, k0_pay54, k0_pay55) (Scf.trips (k0_t5_loop i).lb (k0_t5_loop i).ub (k0_t5_loop i).st))
      (Scf.trips (k0_t6_loop i).lb (k0_t6_loop i).ub (k0_t6_loop i).st) = carry q sc K V (i 1).val := by
  rw [show Scf.trips (k0_t6_loop i).lb (k0_t6_loop i).ub (k0_t6_loop i).st = 0 from trips_rest i]
  rw [show Scf.trips (k0_t5_loop i).lb (k0_t5_loop i).ub (k0_t5_loop i).st = (i 1).val from trips_main i]
  exact st5_eq c i arg3 harg3 arg4 harg4 arg5 harg5 arg6 harg6 arg7 harg7 arg8 harg8 arg1 q sc K V _ (trips_main i).ge

/-- One trip of the fourth head's loop folds one key tile. -/
theorem trip7_eq (arg1 arg2 : BitVec 32) (v : FVec F S256x256 .fp8e4m3) (l : IVec S256x256 32) (w : BitVec 32) (d e : IVec S256x256 32) (z : BitVec 32) (sc : Elt F .f32) (K V : Vec F S1x8192x256 .fp8e4m3)
    (k : Fin (k0_t7_loop i).trips) (s : State F) :
    tripR_k0_t7 (F := F) Variants.none c none i arg3 harg3 arg4 harg4 arg5 harg5 arg6 harg6 arg7 harg7 arg8 harg8 arg1 arg2 v l w d e z sc
      (harg6.unread K) (harg7.unread V) k s = stepK (k0_pay79 arg2 v l w d e z) sc (tile K k.val) (tile V k.val) s := by
  have hk : k.val < 32 := lt_of_lt_of_eq k.isLt (trips_main i) |>.trans (i 1).isLt
  have h6 := load_tile harg6 K (k0_off10 i k) (k0_off10_inb i k) k.val hk (off_trip i k)
  have h7 := load_tile harg7 V (k0_off10 i k) (k0_off10_inb i k) k.val hk (off_trip i k)
  rw [← h6, ← h7]
  unfold tripR_k0_t7 trip_k0_t7
  rfl

/-- What the fourth head's loop carries before trip `n`. -/
theorem st7_eq (arg1 arg2 : BitVec 32) (v : FVec F S256x256 .fp8e4m3) (l : IVec S256x256 32) (w : BitVec 32) (d e : IVec S256x256 32) (z : BitVec 32) (sc : Elt F .f32) (K V : Vec F S1x8192x256 .fp8e4m3)
    (n : ℕ) (hn : n ≤ (k0_t7_loop i).trips) :
    st_k0_t7 (F := F) Variants.none c none i arg3 harg3 arg4 harg4 arg5 harg5 arg6 harg6 arg7 harg7 arg8 harg8 arg1 arg2 v l w d e z sc
      (harg6.unread K) (harg7.unread V) (k0_pay81, k0_pay82, k0_pay83) n = carry (k0_pay79 arg2 v l w d e z) sc K V n := by
  induction n with
  | zero => rfl
  | succ n ih =>
    have := st_k0_t7_succ (F := F) Variants.none c none i arg3 harg3 arg4 harg4 arg5 harg5 arg6 harg6 arg7 harg7 arg8 harg8 arg1 arg2 v l w d e z sc
      (harg6.unread K) (harg7.unread V) (k0_pay81, k0_pay82, k0_pay83) ⟨n, hn⟩
    refine this.trans ?_
    rw [trip7_eq]
    simp only
    rw [ih (Nat.le_of_succ_le hn)]
    rfl

/-- What the fourth head's loops leave: the values carried before the diagonal tile. -/
theorem loops7_eq (arg1 arg2 : BitVec 32) (v : FVec F S256x256 .fp8e4m3) (l : IVec S256x256 32) (w : BitVec 32) (d e : IVec S256x256 32) (z : BitVec 32) (sc : Elt F .f32) (K V : Vec F S1x8192x256 .fp8e4m3) :
    st_k0_t8 (F := F) Variants.none c none i arg3 harg3 arg4 harg4 arg5 harg5 arg6 harg6 arg7 harg7 arg8 harg8 arg1 arg2 v l w d e z sc
      (harg6.unread K) (harg7.unread V)
      (st_k0_t7 (F := F) Variants.none c none i arg3 harg3 arg4 harg4 arg5 harg5 arg6 harg6 arg7 harg7 arg8 harg8 arg1 arg2 v l w d e z sc
        (harg6.unread K) (harg7.unread V) (k0_pay81, k0_pay82, k0_pay83) (Scf.trips (k0_t7_loop i).lb (k0_t7_loop i).ub (k0_t7_loop i).st))
      (Scf.trips (k0_t8_loop i).lb (k0_t8_loop i).ub (k0_t8_loop i).st) = carry (k0_pay79 arg2 v l w d e z) sc K V (i 1).val := by
  rw [show Scf.trips (k0_t8_loop i).lb (k0_t8_loop i).ub (k0_t8_loop i).st = 0 from trips_rest i]
  rw [show Scf.trips (k0_t7_loop i).lb (k0_t7_loop i).ub (k0_t7_loop i).st = (i 1).val from trips_main i]
  exact st7_eq c i arg3 harg3 arg4 harg4 arg5 harg5 arg6 harg6 arg7 harg7 arg8 harg8 arg1 arg2 v l w d e z sc K V _ (trips_main i).ge

end Cert.KernelIdeal.Gen

end
-- ==== Proof.Attn.Pieces.lean ====
/- The pieces one grid point stores, in the terms of `Attn.Block`: each of the four stored column blocks is `headOut`. -/
module

public import proofs.«01_k».proof.Proof.Attn.Loop

@[expose] public section

noncomputable section

namespace Cert.KernelIdeal.Gen

open Idealize.ShloMosaic Idealize.ShloMosaic.TcCoe

variable {F : FTy → Type} [FloatOps F] [Named F]

variable (c : Dev nD) (i : grid0.Coords) (arg3 : Memref sig .tc .smem S16 .f32) (harg3 : arg3.IsWhole) (arg4 : Memref sig .tc .smem S4 .f32) (harg4 : arg4.IsWhole) (arg5 : Memref sig .tc .vmem S1x256x256 .fp8e4m3) (harg5 : arg5.IsWhole) (arg6 : Memref sig .tc .vmem S1x8192x256 .fp8e4m3) (harg6 : arg6.IsWhole) (arg7 : Memref sig .tc .vmem S1x8192x256 .fp8e4m3) (harg7 : arg7.IsWhole) (arg8 : Memref sig .tc .vmem S1x256x256 .bf16) (harg8 : arg8.IsWhole)

/-- The score scale of head `g` of the grid point's key head, as loaded. -/
def scoreLd (x0 : Vec F S16 .f32) (g : Fin 4) : Elt F .f32 :=
  View.readAt (Elt F) arg3.view (Rect.unit (s := S16) (k0_off1 i (BitVec.ofNat 32 g.val)) S1.size (k0_off1_inb i g)).toLoadRect
    (harg3.unread x0) (Shape.Idx.first (s := S1) (by decide))

/-- The value scale of the grid point's key head, as loaded. -/
def valueLd (x1 : Vec F S4 .f32) : Elt F .f32 :=
  View.readAt (Elt F) arg4.view (Rect.unit (s := S4) (k0_off5 i) S1.size (k0_off5_inb i)).toLoadRect (harg4.unread x1)
    (Shape.Idx.first (s := S1) (by decide))

/-- It is entry `4 h + g` of the scales, `h` the grid point's key head. -/
theorem scoreLd_eq (x0 : Vec F S16 .f32) (g : Fin 4) :
    scoreLd i arg3 harg3 x0 g = x0 (ix1 ⟨(i 2).val * 4 + g.val, by have : (i 2).val < 4 := (i 2).isLt; have := g.isLt; omega⟩) := by
  have h : ∀ (a g : Fin 4), (Scalar.indexCast (Scalar.addi (Scalar.muli (BitVec.ofNat 32 a.val) 4#32) (BitVec.ofNat 32 g.val)) : BitVec 32).toNat = a.val * 4 + g.val := by
    decide +kernel
  unfold scoreLd
  show arg3.view.read (Elt F) (harg3.unread x0) _ = _
  rw [harg3.read_unread]
  congr 1
  funext a
  apply Fin.ext
  match a with
  | ⟨0, _⟩ =>
    show (Scalar.indexCast (Scalar.addi (Scalar.muli (BitVec.ofNat 32 (i 2).val) 4#32) (BitVec.ofNat 32 g.val)) : BitVec 32).toNat + 1 * 0 = _
    rw [h (i 2) g]; rfl

/-- It is the key head's entry of the scales. -/
theorem valueLd_eq (x1 : Vec F S4 .f32) : valueLd i arg4 harg4 x1 = x1 (ix1 (i 2)) := by
  have h : ∀ (a : Fin 4), (Scalar.indexCast (BitVec.ofNat 32 a.val) : BitVec 32).toNat = a.val := by
    decide +kernel
  unfold valueLd
  show arg4.view.read (Elt F) (harg4.unread x1) _ = _
  rw [harg4.read_unread]
  congr 1
  funext a
  apply Fin.ext
  match a with
  | ⟨0, _⟩ =>
    show (Scalar.indexCast (BitVec.ofNat 32 (i 2).val) : BitVec 32).toNat + 1 * 0 = _
    rw [h (i 2)]; rfl

/-- The load of the whole query block reads it. -/
theorem load_block (x : Vec F S1x256x256 .fp8e4m3)
    (inb : ∀ a, (![0, 0, 0] : Fin 3 → ℕ) a + S1x256x256.size a ≤ S1x256x256.size a) :
    View.readAt (Elt F) arg5.view (Rect.unit (s := S1x256x256) ![0, 0, 0] S1x256x256.size inb).toLoadRect (harg5.unread x) = x := by
  funext y
  show arg5.view.read (Elt F) (harg5.unread x) _ = _
  rw [harg5.read_unread]
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The diagonal tile folded into the carried values, and what is stored of it. -/
def fold (a2 : BitVec 32) (q : FVec F S256x256 .fp8e4m3) (c vs : Elt F .f32) (kb vb : Vec F S1x256x256 .fp8e4m3) (s : State F) :
    FVec F S1x256x64 .bf16 :=
  k0_pay27 a2 s.2.2 (k0_pay20 vb) (k0_pay24 q c s.1 kb) (k0_pay25 q c s.1 s.2.1 kb) (k0_pay26 q c s.1 kb)
    (constant S256x256 .f32 0x00000000#32) vs

/-- Over the carried values and the diagonal tile it is the stored block. -/
theorem fold_eq (a2 : BitVec 32) (q : FVec F S256x256 .fp8e4m3) (c vs : Elt F .f32) (K V : Vec F S1x8192x256 .fp8e4m3) (n : ℕ)
    (kb vb : Vec F S1x256x256 .fp8e4m3) (s : State F) (hs : s = carry q c K V n) (hk : kb = tile K n) (hv : vb = tile V n) :
    fold a2 q c vs kb vb s = headOut a2 n q c vs K V := by
  subst hs hk hv; rfl

/-- The second head's way of writing it. -/
theorem fold1_eq (a2 : BitVec 32) (q : FVec F S256x256 .fp8e4m3) (c vs : Elt F .f32) (kb vb : Vec F S1x256x256 .fp8e4m3) (s : State F) :
    k0_pay50 (k0_pay49 a2 q (k0_pay32 c) s.1 s.2.1 s.2.2 (k0_pay48 kb) vb vs) = fold a2 q c vs kb vb s := rfl

/-- The third head's way of writing it. -/
theorem fold2_eq (a2 : BitVec 32) (q : FVec F S256x256 .fp8e4m3) (c vs : Elt F .f32) (kb vb : Vec F S1x256x256 .fp8e4m3) (s : State F) :
    k0_pay75 a2 s.2.2 (k0_pay72 q (k0_pay52 c) s.1 s.2.1 kb) (k0_pay73 q (k0_pay52 c) s.1 kb vb) (k0_pay74 q (k0_pay52 c) s.1 kb) vs
      = fold a2 q c vs kb vb s := rfl

/-- The fourth head's way of writing it. -/
theorem fold3_eq (a2 : BitVec 32) (q : FVec F S256x256 .fp8e4m3) (c vs : Elt F .f32) (kb vb : Vec F S1x256x256 .fp8e4m3) (s : State F) :
    k0_pay1 (k0_pay98 a2 q (k0_pay80 c) s.1 s.2.1 s.2.2 (k0_pay96 kb) (k0_pay97 vb) vs) = fold a2 q c vs kb vb s := rfl

/-- The block head 0 stores. -/
theorem piece0_eq (x0 : Vec F S16 .f32) (x1 : Vec F S4 .f32) (x2 : Vec F S1x256x256 .fp8e4m3) (x3 x4 : Vec F S1x8192x256 .fp8e4m3) :
    k0_pay27 (BitVec.ofNat 32 (i 2).val) (kernelRun0_A.sl.r_3 c i arg3 harg3 arg4 harg4 arg5 harg5 arg6 harg6 arg7 harg7 arg8 harg8 x0 x2 x3 x4) (kernelRun0_A.sl.r_4 i arg7 harg7 x4) (kernelRun0_A.sl.r_5 c i arg3 harg3 arg4 harg4 arg5 harg5 arg6 harg6 arg7 harg7 arg8 harg8 x0 x2 x3 x4) (kernelRun0_A.sl.r_6 c i arg3 harg3 arg4 harg4 arg5 harg5 arg6 harg6 arg7 harg7 arg8 harg8 x0 x2 x3 x4) (kernelRun0_A.sl.r_7 c i arg3 harg3 arg4 harg4 arg5 harg5 arg6 harg6 arg7 harg7 arg8 harg8 x0 x2 x3 x4) kernelRun0_A.sl.cst_28 (kernelRun0_A.sl.r_8 c i arg4 harg4 x1) = headOut (BitVec.ofNat 32 (i 2).val) (i 1).val (headQ 0#32 (BitVec.ofNat 32 (i 2).val) x2) (scoreLd i arg3 harg3 x0 0) (valueLd i arg4 harg4 x1) x3 x4 := by
  have hl := loops1_eq c i arg3 harg3 arg4 harg4 arg5 harg5 arg6 harg6 arg7 harg7 arg8 harg8 (BitVec.ofNat 32 (i 1).val) (headQ 0#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 0) x3 x4
  have hx : (View.readAt (Elt F) arg5.view (Rect.unit (s := S1x256x256) ![0, 0, 0] S1x256x256.size inb_S1x256x256_S1x256x256_0_0_0).toLoadRect (harg5.unread x2)) = x2 := load_block arg5 harg5 x2 _
  have h6 := load_tile harg6 x3 (k0_off4 i) (k0_off4_inb i) (i 1).val (i 1).isLt (off_diag i)
  have h7 := load_tile harg7 x4 (k0_off4 i) (k0_off4_inb i) (i 1).val (i 1).isLt (off_diag i)
  have key := fold_eq (BitVec.ofNat 32 (i 2).val) (headQ 0#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 0) (valueLd i arg4 harg4 x1) x3 x4 (i 1).val _ _ _ hl h6 h7
  refine Eq.trans ?_ (key.trans (by rw [hx]))
  exact rfl

/-- The block head 1 stores. -/
theorem piece1_eq (x0 : Vec F S16 .f32) (x1 : Vec F S4 .f32) (x2 : Vec F S1x256x256 .fp8e4m3) (x3 x4 : Vec F S1x8192x256 .fp8e4m3) :
    k0_pay50 (kernelRun0_A.sl.r_18 c i arg3 harg3 arg4 harg4 arg5 harg5 arg6 harg6 arg7 harg7 arg8 harg8 x0 x1 x2 x3 x4) = headOut (BitVec.ofNat 32 (i 2).val) (i 1).val (headQ 1#32 (BitVec.ofNat 32 (i 2).val) x2) (scoreLd i arg3 harg3 x0 1) (valueLd i arg4 harg4 x1) x3 x4 := by
  have hl := loops3_eq c i arg3 harg3 arg4 harg4 arg5 harg5 arg6 harg6 arg7 harg7 arg8 harg8 (BitVec.ofNat 32 (i 1).val) (BitVec.ofNat 32 (i 2).val) (k0_pay28 (BitVec.ofNat 32 (i 2).val) (k0_pay2 (View.readAt (Elt F) arg5.view (Rect.unit (s := S1x256x256) ![0, 0, 0] S1x256x256.size inb_S1x256x256_S1x256x256_0_0_0).toLoadRect (harg5.unread x2)))) (iota .tc S256x256 32 [1] iota_S256x256_d1_w32) 64#32 k0_pay29 k0_pay30 0#32 (scoreLd i arg3 harg3 x0 1) x3 x4
  have hx : (View.readAt (Elt F) arg5.view (Rect.unit (s := S1x256x256) ![0, 0, 0] S1x256x256.size inb_S1x256x256_S1x256x256_0_0_0).toLoadRect (harg5.unread x2)) = x2 := load_block arg5 harg5 x2 _
  have h6 := load_tile harg6 x3 (k0_off4 i) (k0_off4_inb i) (i 1).val (i 1).isLt (off_diag i)
  have h7 := load_tile harg7 x4 (k0_off4 i) (k0_off4_inb i) (i 1).val (i 1).isLt (off_diag i)
  have key := fold_eq (BitVec.ofNat 32 (i 2).val) (headQ 1#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 1) (valueLd i arg4 harg4 x1) x3 x4 (i 1).val _ _ _ hl h6 h7
  refine Eq.trans ?_ (key.trans (by rw [hx]))
  exact fold1_eq (F := F) _ _ _ _ _ _ _

/-- The block head 2 stores. -/
theorem piece2_eq (x0 : Vec F S16 .f32) (x1 : Vec F S4 .f32) (x2 : Vec F S1x256x256 .fp8e4m3) (x3 x4 : Vec F S1x8192x256 .fp8e4m3) :
    k0_pay75 (BitVec.ofNat 32 (i 2).val) (kernelRun0_A.sl.r_22 c i arg3 harg3 arg4 harg4 arg5 harg5 arg6 harg6 arg7 harg7 arg8 harg8 x0 x2 x3 x4) (kernelRun0_A.sl.r_23 c i arg3 harg3 arg4 harg4 arg5 harg5 arg6 harg6 arg7 harg7 arg8 harg8 x0 x2 x3 x4) (kernelRun0_A.sl.r_24 c i arg3 harg3 arg4 harg4 arg5 harg5 arg6 harg6 arg7 harg7 arg8 harg8 x0 x2 x3 x4) (kernelRun0_A.sl.r_25 c i arg3 harg3 arg4 harg4 arg5 harg5 arg6 harg6 arg7 harg7 arg8 harg8 x0 x2 x3 x4) (kernelRun0_A.sl.r_26 c i arg4 harg4 x1) = headOut (BitVec.ofNat 32 (i 2).val) (i 1).val (headQ 2#32 (BitVec.ofNat 32 (i 2).val) x2) (scoreLd i arg3 harg3 x0 2) (valueLd i arg4 harg4 x1) x3 x4 := by
  have hl := loops5_eq c i arg3 harg3 arg4 harg4 arg5 harg5 arg6 harg6 arg7 harg7 arg8 harg8 (BitVec.ofNat 32 (i 1).val) (headQ 2#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 2) x3 x4
  have hx : (View.readAt (Elt F) arg5.view (Rect.unit (s := S1x256x256) ![0, 0, 0] S1x256x256.size inb_S1x256x256_S1x256x256_0_0_0).toLoadRect (harg5.unread x2)) = x2 := load_block arg5 harg5 x2 _
  have h6 := load_tile harg6 x3 (k0_off4 i) (k0_off4_inb i) (i 1).val (i 1).isLt (off_diag i)
  have h7 := load_tile harg7 x4 (k0_off4 i) (k0_off4_inb i) (i 1).val (i 1).isLt (off_diag i)
  have key := fold_eq (BitVec.ofNat 32 (i 2).val) (headQ 2#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 2) (valueLd i arg4 harg4 x1) x3 x4 (i 1).val _ _ _ hl h6 h7
  refine Eq.trans ?_ (key.trans (by rw [hx]))
  exact fold2_eq (F := F) _ _ _ _ _ _ _

/-- The block head 3 stores. -/
theorem piece3_eq (x0 : Vec F S16 .f32) (x1 : Vec F S4 .f32) (x2 : Vec F S1x256x256 .fp8e4m3) (x3 x4 : Vec F S1x8192x256 .fp8e4m3) :
    k0_pay1 (kernelRun0_A.sl.r_37 c i arg3 harg3 arg4 harg4 arg5 harg5 arg6 harg6 arg7 harg7 arg8 harg8 x0 x1 x2 x3 x4) = headOut (BitVec.ofNat 32 (i 2).val) (i 1).val (headQ 3#32 (BitVec.ofNat 32 (i 2).val) x2) (scoreLd i arg3 harg3 x0 3) (valueLd i arg4 harg4 x1) x3 x4 := by
  have hl := loops7_eq c i arg3 harg3 arg4 harg4 arg5 harg5 arg6 harg6 arg7 harg7 arg8 harg8 (BitVec.ofNat 32 (i 1).val) (BitVec.ofNat 32 (i 2).val) (k0_pay76 (BitVec.ofNat 32 (i 2).val) (k0_pay2 (View.readAt (Elt F) arg5.view (Rect.unit (s := S1x256x256) ![0, 0, 0] S1x256x256.size inb_S1x256x256_S1x256x256_0_0_0).toLoadRect (harg5.unread x2)))) (iota .tc S256x256 32 [1] iota_S256x256_d1_w32) 64#32 k0_pay77 k0_pay78 1#32 (scoreLd i arg3 harg3 x0 3) x3 x4
  have hx : (View.readAt (Elt F) arg5.view (Rect.unit (s := S1x256x256) ![0, 0, 0] S1x256x256.size inb_S1x256x256_S1x256x256_0_0_0).toLoadRect (harg5.unread x2)) = x2 := load_block arg5 harg5 x2 _
  have h6 := load_tile harg6 x3 (k0_off4 i) (k0_off4_inb i) (i 1).val (i 1).isLt (off_diag i)
  have h7 := load_tile harg7 x4 (k0_off4 i) (k0_off4_inb i) (i 1).val (i 1).isLt (off_diag i)
  have key := fold_eq (BitVec.ofNat 32 (i 2).val) (headQ 3#32 (BitVec.ofNat 32 (i 2).val) (View.readAt (Elt F) arg5.view (Rect.unit (s := S1x256x256) ![0, 0, 0] S1x256x256.size inb_S1x256x256_S1x256x256_0_0_0).toLoadRect (harg5.unread x2))) (scoreLd i arg3 harg3 x0 3) (valueLd i arg4 harg4 x1) x3 x4 (i 1).val _ _ _ hl h6 h7
  refine Eq.trans ?_ (key.trans (by rw [hx]))
  exact fold3_eq (F := F) _ _ _ _ _ _ _

end Cert.KernelIdeal.Gen

end
-- ==== Proof.Attn.Out.lean ====
/-
What one grid point leaves in its output block, read at an index: the column `64 * g + d` of the block is column `d`
of what query head `g` computes.
-/
module

public import proofs.«01_k».proof.Proof.Attn.Pieces

@[expose] public section

noncomputable section

namespace Cert.KernelIdeal.Gen

open Idealize.ShloMosaic Idealize.ShloMosaic.TcCoe
variable {F : FTy → Type} [FloatOps F] [Named F]

/-- One grid point's output block as one function of its column: column `64 * g + d` is column `d` of head `g`. -/
def outBlock (i : grid0.Coords) (x0 : Vec F S16 .f32) (x1 : Vec F S4 .f32) (x2 : Vec F S1x256x256 .fp8e4m3)
    (x3 x4 : Vec F S1x8192x256 .fp8e4m3) : Vec F S1x256x256 .bf16 := fun y =>
  headOut (BitVec.ofNat 32 (i 2).val) (i 1).val
    (headQ (BitVec.ofNat 32 ((y 2).val / 64)) (BitVec.ofNat 32 (i 2).val) x2)
    (x0 (ix1 ⟨((i 2).val * 4 + (y 2).val / 64) % 16, Nat.mod_lt _ (by decide)⟩)) (x1 (ix1 (i 2))) x3 x4
    (ix3 0 (y 1) ⟨(y 2).val % 64, Nat.mod_lt _ (by decide)⟩)

/-- The block at a column of head `g`. -/
theorem outBlock_at (i : grid0.Coords) (x0 : Vec F S16 .f32) (x1 : Vec F S4 .f32) (x2 : Vec F S1x256x256 .fp8e4m3)
    (x3 x4 : Vec F S1x8192x256 .fp8e4m3) (g : Fin 4) (x : S1x256x64.Idx) (y : S1x256x256.Idx)
    (h1 : (y 1).val = (x 1).val) (h2 : (y 2).val = 64 * g.val + (x 2).val) :
    headOut (BitVec.ofNat 32 (i 2).val) (i 1).val (headQ (BitVec.ofNat 32 g.val) (BitVec.ofNat 32 (i 2).val) x2)
      (x0 (ix1 ⟨(i 2).val * 4 + g.val, by have := (i 2).isLt; change _ < 4 at this; show _ < 16; omega⟩))
      (x1 (ix1 (i 2))) x3 x4 x
      = outBlock i x0 x1 x2 x3 x4 y := by
  have hx2 : (x 2).val < 64 := (x 2).isLt
  have hx0 : (x 0).val < 1 := (x 0).isLt
  have hi2 : (i 2).val < 4 := (i 2).isLt
  have e1 : (y 2).val / 64 = g.val := by omega
  unfold outBlock
  have e3 : (ix3 0 (y 1) ⟨(y 2).val % 64, Nat.mod_lt _ (by decide)⟩ : S1x256x64.Idx) = x := by
    funext a; apply Fin.ext
    match a with
    | 0 => show 0 = (x 0).val; omega
    | 1 => exact h1
    | 2 => show (y 2).val % 64 = _; omega
  have e4 : (ix1 ⟨((i 2).val * 4 + (y 2).val / 64) % 16, Nat.mod_lt _ (by decide)⟩ : S16.Idx) = ix1 ⟨(i 2).val * 4 + g.val, by show _ < 16; omega⟩ := by
    congr 1; apply Fin.ext; show ((i 2).val * 4 + (y 2).val / 64) % 16 = (i 2).val * 4 + g.val; omega
  rw [e3, e4, e1]

/-- Every stored piece is its columns of `outBlock`. -/
theorem pieces_eq (c : Dev nD) (i : grid0.Coords) (arg3 : Memref sig .tc .smem S16 .f32) (harg3 : arg3.IsWhole) (arg4 : Memref sig .tc .smem S4 .f32) (harg4 : arg4.IsWhole)
    (arg5 : Memref sig .tc .vmem S1x256x256 .fp8e4m3) (harg5 : arg5.IsWhole) (arg6 : Memref sig .tc .vmem S1x8192x256 .fp8e4m3) (harg6 : arg6.IsWhole)
    (arg7 : Memref sig .tc .vmem S1x8192x256 .fp8e4m3) (harg7 : arg7.IsWhole) (arg8 : Memref sig .tc .vmem S1x256x256 .bf16) (harg8 : arg8.IsWhole)
    (x0 : Vec F S16 .f32) (x1 : Vec F S4 .f32) (x2 : Vec F S1x256x256 .fp8e4m3) (x3 x4 : Vec F S1x8192x256 .fp8e4m3) :
    ∀ p ∈ (kernelRun0_A c i arg3 harg3 arg4 harg4 arg5 harg5 arg6 harg6 arg7 harg7 arg8 harg8 x0 x1 x2 x3 x4).1, ∀ x : p.1.shape.Idx, p.2 x = outBlock i x0 x1 x2 x3 x4 (p.1.emb x) := by
  unfold kernelRun0_A
  dsimp only
  intro p hp
  simp only [List.mem_cons, List.not_mem_nil, or_false] at hp
  rcases hp with rfl | rfl | rfl | rfl <;> intro x <;> dsimp only
  · refine (congrFun (piece3_eq c i arg3 harg3 arg4 harg4 arg5 harg5 arg6 harg6 arg7 harg7 arg8 harg8 x0 x1 x2 x3 x4) x).trans ?_
    rw [scoreLd_eq, valueLd_eq]
    exact outBlock_at i x0 x1 x2 x3 x4 3 x _ (by show 0 + 1 * (x 1).val = _; omega) (by show 192 + 1 * (x 2).val = 64 * 3 + (x 2).val; omega)
  · refine (congrFun (piece2_eq c i arg3 harg3 arg4 harg4 arg5 harg5 arg6 harg6 arg7 harg7 arg8 harg8 x0 x1 x2 x3 x4) x).trans ?_
    rw [scoreLd_eq, valueLd_eq]
    exact outBlock_at i x0 x1 x2 x3 x4 2 x _ (by show 0 + 1 * (x 1).val = _; omega) (by show 128 + 1 * (x 2).val = 64 * 2 + (x 2).val; omega)
  · refine (congrFun (piece1_eq c i arg3 harg3 arg4 harg4 arg5 harg5 arg6 harg6 arg7 harg7 arg8 harg8 x0 x1 x2 x3 x4) x).trans ?_
    rw [scoreLd_eq, valueLd_eq]
    exact outBlock_at i x0 x1 x2 x3 x4 1 x _ (by show 0 + 1 * (x 1).val = _; omega) (by show 64 + 1 * (x 2).val = 64 * 1 + (x 2).val; omega)
  · refine (congrFun (piece0_eq c i arg3 harg3 arg4 harg4 arg5 harg5 arg6 harg6 arg7 harg7 arg8 harg8 x0 x1 x2 x3 x4) x).trans ?_
    rw [scoreLd_eq, valueLd_eq]
    exact outBlock_at i x0 x1 x2 x3 x4 0 x _ (by show 0 + 1 * (x 1).val = _; omega) (by show 0 + 1 * (x 2).val = 64 * 0 + (x 2).val; omega)

/-- What a grid point leaves in the output's staging buffer is `outBlock` of the blocks it was given. -/
theorem out_eq (c : Dev nD) (i : grid0.Coords) (arg3 : Memref sig .tc .smem S16 .f32) (harg3 : arg3.IsWhole) (arg4 : Memref sig .tc .smem S4 .f32) (harg4 : arg4.IsWhole)
    (arg5 : Memref sig .tc .vmem S1x256x256 .fp8e4m3) (harg5 : arg5.IsWhole) (arg6 : Memref sig .tc .vmem S1x8192x256 .fp8e4m3) (harg6 : arg6.IsWhole)
    (arg7 : Memref sig .tc .vmem S1x8192x256 .fp8e4m3) (harg7 : arg7.IsWhole) (arg8 : Memref sig .tc .vmem S1x256x256 .bf16) (harg8 : arg8.IsWhole)
    (x0 : Vec F S16 .f32) (x1 : Vec F S4 .f32) (x2 : Vec F S1x256x256 .fp8e4m3) (x3 x4 : Vec F S1x8192x256 .fp8e4m3) :
    out0_A_5 c i arg3 harg3 arg4 harg4 arg5 harg5 arg6 harg6 arg7 harg7 arg8 harg8 x0 x1 x2 x3 x4 = outBlock i x0 x1 x2 x3 x4 := by
  unfold out0_A_5
  haveI : ∀ e, Nonempty (Elt F e) := fun e => inferInstance
  rw [View.read_writes_junk_eq_canon]
  funext y
  exact View.canon_apply_of_pieces _ _ (pieces_eq c i arg3 harg3 arg4 harg4 arg5 harg5 arg6 harg6 arg7 harg7 arg8 harg8 x0 x1 x2 x3 x4) y
    (cover0_A_5 c i arg3 harg3 arg4 harg4 arg5 harg5 arg6 harg6 arg7 harg7 arg8 harg8 x0 x1 x2 x3 x4 y)

end Cert.KernelIdeal.Gen

end
-- ==== Proof.Attn.Windows.lean ====
/- The blocks a grid point is given, as entries of the argument arrays, and where its output block lies. -/
module

public import proofs.«01_k».proof.Proof.Attn.Out
public import Idealize.ShloMosaic.Lib.Pipeline.Covers

@[expose] public section

noncomputable section

namespace Cert.KernelIdeal.Gen

open Idealize.ShloMosaic Idealize.ShloMosaic.TcCoe Idealize.ShloMosaic.Tactic

variable {F : FTy → Type} [FloatOps F] [Named F]
variable (m : (ℓ : Loc nD τ sig) → Buf (Elt F) ℓ)

/-- The index maps of the four windows over large arrays: the grid coordinates of the axes they use. -/
theorem win_index (t : Fin cfg0.N) :
    (win0_2.index t 0 = (grid0.coords t 0).val ∧ win0_2.index t 1 = (grid0.coords t 1).val ∧ win0_2.index t 2 = (grid0.coords t 2).val)
    ∧ (win0_3.index t 0 = (grid0.coords t 0).val ∧ win0_3.index t 1 = 0 ∧ win0_3.index t 2 = 0)
    ∧ (win0_4.index t 0 = (grid0.coords t 0).val ∧ win0_4.index t 1 = 0 ∧ win0_4.index t 2 = 0)
    ∧ (win0_5.index t 0 = (grid0.coords t 0).val ∧ win0_5.index t 1 = (grid0.coords t 1).val ∧ win0_5.index t 2 = (grid0.coords t 2).val)
    ∧ win0_0.index t 0 = 0 ∧ win0_1.index t 0 = 0 := by
  have h0 : (grid0.coords t 0).val < 8 := (grid0.coords t 0).isLt
  have h1 : (grid0.coords t 1).val < 32 := (grid0.coords t 1).isLt
  have h2 : (grid0.coords t 2).val < 4 := (grid0.coords t 2).isLt
  have e : ∀ n : ℕ, n < 32 → (BitVec.ofNat 32 n).toNat = n := fun n h => by
    rw [BitVec.toNat_ofNat]; exact Nat.mod_eq_of_lt (by omega)
  exact ⟨⟨e _ (by omega), e _ (by omega), e _ (by omega)⟩, ⟨e _ (by omega), rfl, rfl⟩, ⟨e _ (by omega), rfl, rfl⟩,
    ⟨e _ (by omega), e _ (by omega), e _ (by omega)⟩, rfl, rfl⟩

/-- The query block of a grid point: rows `256 i …` and lanes `256 h …` of its batch. -/
theorem query_block (c : Dev nD) (t : Fin cfg0.N) (r l : Fin 256) :
    (iblk m c 2 t : Vec F S1x256x256 .fp8e4m3) (ix3 0 r l)
      = (m ((c : Thread nD τ).loc main_arg0) : Vec F S8x8192x1024 .fp8e4m3)
          (ix3 (grid0.coords t 0) ⟨256 * (grid0.coords t 1).val + r.val, by have h : (grid0.coords t 1).val < 32 := (grid0.coords t 1).isLt; have := r.isLt; omega⟩
            ⟨256 * (grid0.coords t 2).val + l.val, by have h : (grid0.coords t 2).val < 4 := (grid0.coords t 2).isLt; have := l.isLt; omega⟩) := by
  obtain ⟨⟨e0, e1, e2⟩, -⟩ := win_index t
  rw [← V_main_arg0 m c]
  show V m c main_arg0 (((cfg0.win 2).blk t).view.emb (ix3 0 r l)) = _
  congr 1
  funext a; apply Fin.ext
  match a with
  | ⟨0, _⟩ => show win0_2.index t 0 * 1 + 1 * 0 = (grid0.coords t 0).val; omega
  | ⟨1, _⟩ => show win0_2.index t 1 * 256 + 1 * r.val = 256 * (grid0.coords t 1).val + r.val; omega
  | ⟨2, _⟩ => show win0_2.index t 2 * 256 + 1 * l.val = 256 * (grid0.coords t 2).val + l.val; omega

/-- The key block of a grid point: its batch's keys. -/
theorem key_block (c : Dev nD) (t : Fin cfg0.N) (j : Fin 8192) (l : Fin 256) :
    (iblk m c 3 t : Vec F S1x8192x256 .fp8e4m3) (ix3 0 j l)
      = (m ((c : Thread nD τ).loc main_arg1) : Vec F S8x8192x256 .fp8e4m3) (ix3 (grid0.coords t 0) j l) := by
  obtain ⟨-, ⟨e0, e1, e2⟩, -⟩ := win_index t
  rw [← V_main_arg1 m c]
  show V m c main_arg1 (((cfg0.win 3).blk t).view.emb (ix3 0 j l)) = _
  congr 1
  funext a; apply Fin.ext
  match a with
  | ⟨0, _⟩ => show win0_3.index t 0 * 1 + 1 * 0 = (grid0.coords t 0).val; omega
  | ⟨1, _⟩ => show win0_3.index t 1 * 8192 + 1 * j.val = j.val; omega
  | ⟨2, _⟩ => show win0_3.index t 2 * 256 + 1 * l.val = l.val; omega

/-- The value block of a grid point: its batch's values. -/
theorem value_block (c : Dev nD) (t : Fin cfg0.N) (j : Fin 8192) (l : Fin 256) :
    (iblk m c 4 t : Vec F S1x8192x256 .fp8e4m3) (ix3 0 j l)
      = (m ((c : Thread nD τ).loc main_arg2) : Vec F S8x8192x256 .fp8e4m3) (ix3 (grid0.coords t 0) j l) := by
  obtain ⟨-, -, ⟨e0, e1, e2⟩, -⟩ := win_index t
  rw [← V_main_arg2 m c]
  show V m c main_arg2 (((cfg0.win 4).blk t).view.emb (ix3 0 j l)) = _
  congr 1
  funext a; apply Fin.ext
  match a with
  | ⟨0, _⟩ => show win0_4.index t 0 * 1 + 1 * 0 = (grid0.coords t 0).val; omega
  | ⟨1, _⟩ => show win0_4.index t 1 * 8192 + 1 * j.val = j.val; omega
  | ⟨2, _⟩ => show win0_4.index t 2 * 256 + 1 * l.val = l.val; omega

/-- The value scales a grid point is given: all of them. -/
theorem value_scale (c : Dev nD) (t : Fin cfg0.N) (h : Fin 4) :
    (iblk m c 1 t : Vec F S4 .f32) (ix1 h) = (m ((c : Thread nD τ).loc main_arg5) : Vec F S4 .f32) (ix1 h) := by
  obtain ⟨-, -, -, -, -, e0⟩ := win_index t
  rw [← V_main_arg5 m c]
  show V m c main_arg5 (((cfg0.win 1).blk t).view.emb (ix1 h)) = _
  congr 1
  funext a; apply Fin.ext
  match a with
  | ⟨0, _⟩ => show win0_1.index t 0 * 4 + 1 * h.val = h.val; omega

/-- The score scales as the host lines before the call leave them: query scale times key scale. -/
theorem V_main_v2 (c : Dev nD) :
    (V m c main_v2 : Vec F S16 .f32)
      = mulf (m ((c : Thread nD τ).loc main_arg3) : Vec F S16 .f32)
          (shapeCast S16 (broadcastInDim S4x4 ![0] bcast_S4_S4x4_0 (m ((c : Thread nD τ).loc main_arg4) : Vec F S4 .f32)) shapeCasts_S4x4_S16) := by
  unfold_abbrev_sides
  after_results
  rfl

/-- The score scale a grid point is given for head `n`. -/
theorem score_scale (m : (ℓ : Loc nD τ sig) → Buf (Elt Ideal) ℓ) (c : Dev nD) (t : Fin cfg0.N) (h g : Fin 4) (n : Fin 16) (hn : n.val = 4 * h.val + g.val)
    (qs : Vec Ideal S16 .f32) (ks : Vec Ideal S4 .f32)
    (hqs : m ((c : Thread nD τ).loc main_arg3) = qs) (hks : m ((c : Thread nD τ).loc main_arg4) = ks) :
    (iblk m c 0 t : Vec Ideal S16 .f32) (ix1 n)
      = qs (ix1 n) * ks (ix1 h) := by
  obtain ⟨-, -, -, -, e0, -⟩ := win_index t
  have e : ((cfg0.win 0).blk t).view.emb (ix1 n) = ix1 n := by
    funext a; apply Fin.ext
    match a with
    | ⟨0, _⟩ => show win0_0.index t 0 * 16 + 1 * n.val = n.val; omega
  refine Eq.trans (b := (V m c main_v2 : Vec Ideal S16 .f32) (ix1 n)) (congrArg (V m c main_v2 : Vec Ideal S16 .f32) e) ?_
  refine (congrFun (V_main_v2 m c) (ix1 n)).trans ?_
  have hh : (⟨n.val / 4, by have := n.isLt; omega⟩ : Fin 4) = h := Fin.ext (by have := g.isLt; simp only [Fin.val_mk]; omega)
  rw [← hh]
  rw [hqs, hks]
  pointwise

/-- Where an index of the output block lies in the array. -/
theorem out_emb (t : Fin cfg0.N) (y : S1x256x256.Idx) :
    (((cfg0.win 5).blk t).view.emb y : S8x8192x1024.Idx)
      = ix3 (grid0.coords t 0) ⟨256 * (grid0.coords t 1).val + (y 1).val, by have h : (grid0.coords t 1).val < 32 := (grid0.coords t 1).isLt; have h' : (y 1).val < 256 := (y 1).isLt; omega⟩
            ⟨256 * (grid0.coords t 2).val + (y 2).val, by have h : (grid0.coords t 2).val < 4 := (grid0.coords t 2).isLt; have h' : (y 2).val < 256 := (y 2).isLt; omega⟩ := by
  obtain ⟨-, -, -, ⟨e0, e1, e2⟩, -⟩ := win_index t
  funext a; apply Fin.ext
  match a with
  | ⟨0, _⟩ =>
    have h' : (y 0).val < 1 := (y 0).isLt
    show win0_5.index t 0 * 1 + 1 * (y 0).val = (grid0.coords t 0).val; omega
  | ⟨1, _⟩ => show win0_5.index t 1 * 256 + 1 * (y 1).val = 256 * (grid0.coords t 1).val + (y 1).val; omega
  | ⟨2, _⟩ => show win0_5.index t 2 * 256 + 1 * (y 2).val = 256 * (grid0.coords t 2).val + (y 2).val; omega

/-- Every index of the output array lies in some grid point's block. -/
theorem out_covered (i : S8x8192x1024.Idx) :
    ∃ t : Fin cfg0.N, (cfg0.win 5).flush t = true ∧ i ∈ ((cfg0.win 5).blk t).view.set := by
  have h0 : (i 0).val < 8 := (i 0).isLt
  have h1 : (i 1).val < 8192 := (i 1).isLt
  have h2 : (i 2).val < 1024 := (i 2).isLt
  obtain ⟨t, ht⟩ := Pipeline.Grid.coords_surjective grid0 (ix3 (⟨(i 0).val, h0⟩ : Fin 8) (⟨(i 1).val / 256, by omega⟩ : Fin 32) (⟨(i 2).val / 256, by omega⟩ : Fin 4) : grid0.Coords)
  refine ⟨t, flush0_5 t, ?_⟩
  have key := ((cfg0.win 5).blk t).view.emb_mem_set (ix3 (0 : Fin 1) (⟨(i 1).val % 256, Nat.mod_lt _ (by norm_num)⟩ : Fin 256) (⟨(i 2).val % 256, Nat.mod_lt _ (by norm_num)⟩ : Fin 256) : S1x256x256.Idx)
  rw [out_emb] at key
  refine (congrArg (fun j : S8x8192x1024.Idx => j ∈ ((cfg0.win 5).blk t).view.set) ?_).mp key
  have t0 : (grid0.coords t 0).val = (i 0).val := by rw [ht]; rfl
  have t1 : (grid0.coords t 1).val = (i 1).val / 256 := by rw [ht]; rfl
  have t2 : (grid0.coords t 2).val = (i 2).val / 256 := by rw [ht]; rfl
  funext a; apply Fin.ext
  match a with
  | ⟨0, _⟩ => exact t0
  | ⟨1, _⟩ => show 256 * (grid0.coords t 1).val + (i 1).val % 256 = (i 1).val; omega
  | ⟨2, _⟩ => show 256 * (grid0.coords t 2).val + (i 2).val % 256 = (i 2).val; omega

end Cert.KernelIdeal.Gen
end
-- ==== Proof.Attn.Online.lean ====
/- The mathematics of a softmax taken tile by tile, over the extended reals: a running maximum, a running sum of
   weights and a running weighted sum, each rescaled when the maximum moves, end at what one pass over all the keys
   gives — for every extended real score and value, infinite ones included. -/
module

public import Idealize.ShloMosaic.PureOps.Ideal

@[expose] public section

noncomputable section

namespace Cert.Attn

open Idealize.ShloMosaic

/-- The weight of a score `s` below the maximum `m`: `2^(s - m)`. -/
def wt (s m : EReal) : EReal := Ideal.exp2 (s - m)

/-- A power of two is never negative. -/
theorem exp2_nonneg (x : EReal) : 0 ≤ Ideal.exp2 x := by
  induction x with
  | bot => simp
  | top => simp
  | coe r => simpa using Real.rpow_nonneg (by norm_num) r

/-- A difference `a - b` with `a ≤ b` is never `+∞`. -/
theorem sub_ne_top {a b : EReal} (h : a ≤ b) : a - b ≠ ⊤ := by
  induction a with
  | bot => simp
  | top => obtain rfl : b = ⊤ := top_le_iff.mp h; simp
  | coe r =>
    induction b with
    | bot => exact absurd h (by simp)
    | top => simp
    | coe q => rw [← EReal.coe_sub]; exact EReal.coe_ne_top _

/-- Below the maximum a weight is finite. -/
theorem wt_ne_top {s m : EReal} (h : s ≤ m) : wt s m ≠ ⊤ := by
  have h' := sub_ne_top h
  unfold wt
  generalize s - m = x at h' ⊢
  induction x with
  | bot => simp
  | top => exact absurd rfl h'
  | coe r => simp

/-- A weight is never negative. -/
theorem wt_nonneg (s m : EReal) : 0 ≤ wt s m := exp2_nonneg _

/-- Rescaling: a weight taken below `m`, times the weight of `m` below a later maximum `m'`, is the weight below `m'`. -/
theorem wt_mul {s m m' : EReal} (h : s ≤ m) (h' : m ≤ m') : wt s m * wt m m' = wt s m' := by
  unfold wt
  induction m' with
  | bot => obtain rfl := le_bot_iff.mp h'; obtain rfl := le_bot_iff.mp h; simp
  | top => simp
  | coe c =>
    induction m with
    | bot => obtain rfl := le_bot_iff.mp h; simp
    | top => exact absurd h' (by simp)
    | coe b =>
      induction s with
      | bot => simp
      | top => exact absurd h (by simp)
      | coe a =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (b - c) = (2 : ℝ) ^ (a - c)
        rw [← Real.rpow_add (by norm_num)]
        congr 1; ring

/-- A sum of extended reals times a finite factor that is not negative is the sum of the products. -/
theorem sum_mul_of_nonneg {ι : Type*} (S : Finset ι) (f : ι → EReal) {a : EReal} (h0 : 0 ≤ a) (ht : a ≠ ⊤) :
    (∑ j ∈ S, f j) * a = ∑ j ∈ S, f j * a := by
  classical
  induction S using Finset.induction_on with
  | empty => simp
  | insert x S hx ih =>
    rw [Finset.sum_insert hx, Finset.sum_insert hx, EReal.right_distrib_of_nonneg_of_ne_top h0 ht, ih]

/-- The largest of the first `n` scores. -/
def top (s : ℕ → EReal) (n : ℕ) : EReal := (Finset.range n).sup s

/-- The sum of the first `n` weights, below the largest of the first `n` scores. -/
def den (s : ℕ → EReal) (n : ℕ) : EReal := ∑ j ∈ Finset.range n, wt (s j) (top s n)

/-- The first `n` values summed, each times its weight. -/
def num (s v : ℕ → EReal) (n : ℕ) : EReal := ∑ j ∈ Finset.range n, v j * wt (s j) (top s n)

/-- Each of the first `n` scores is at most the largest. -/
theorem le_top (s : ℕ → EReal) {n j : ℕ} (h : j < n) : s j ≤ top s n := Finset.le_sup (Finset.mem_range.mpr h)

/-- The largest of `n + k` scores is the larger of the largest of `n` and the largest of the next `k`. -/
theorem top_add (s : ℕ → EReal) (n k : ℕ) :
    top s (n + k) = max (top s n) (Finset.univ.sup fun t : Fin k => s (n + t)) := by
  apply le_antisymm
  · refine Finset.sup_le fun j hj => ?_
    rw [Finset.mem_range] at hj
    by_cases h : j < n
    · exact le_max_of_le_left (le_top s h)
    · refine le_max_of_le_right ?_
      have := Finset.le_sup (f := fun t : Fin k => s (n + t)) (Finset.mem_univ ⟨j - n, by omega⟩)
      simpa [Nat.add_sub_cancel' (not_lt.mp h)] using this
  · refine max_le (Finset.sup_le fun j hj => le_top s ?_) (Finset.sup_le fun t _ => le_top s ?_)
    · rw [Finset.mem_range] at hj; omega
    · omega

/-- More scores have a larger maximum. -/
theorem top_mono (s : ℕ → EReal) (n k : ℕ) : top s n ≤ top s (n + k) := by
  rw [top_add]; exact le_max_left _ _

/-- ONE TILE of the running sum of weights: rescale, then add the tile's weights. -/
theorem den_add (s : ℕ → EReal) (n k : ℕ) :
    den s (n + k) = den s n * wt (top s n) (top s (n + k)) + ∑ t : Fin k, wt (s (n + t)) (top s (n + k)) := by
  unfold den
  rw [sum_mul_of_nonneg _ _ (wt_nonneg _ _) (wt_ne_top (top_mono s n k)), Finset.sum_range_add]
  congr 1
  · exact Finset.sum_congr rfl fun j hj => (wt_mul (le_top s (Finset.mem_range.mp hj)) (top_mono s n k)).symm
  · exact (Finset.sum_range fun x => wt (s (n + x)) (top s (n + k)))

/-- ONE TILE of the running weighted sum: rescale, then add the tile's weighted values. -/
theorem num_add (s v : ℕ → EReal) (n k : ℕ) :
    num s v (n + k)
      = num s v n * wt (top s n) (top s (n + k)) + ∑ t : Fin k, v (n + t) * wt (s (n + t)) (top s (n + k)) := by
  unfold num
  rw [sum_mul_of_nonneg _ _ (wt_nonneg _ _) (wt_ne_top (top_mono s n k)), Finset.sum_range_add]
  congr 1
  · refine Finset.sum_congr rfl fun j hj => ?_
    rw [mul_assoc, wt_mul (le_top s (Finset.mem_range.mp hj)) (top_mono s n k)]
  · exact (Finset.sum_range fun x => v (n + x) * wt (s (n + x)) (top s (n + k)))

/-- Before any key the maximum is `-∞`. -/
theorem top_zero (s : ℕ → EReal) : top s 0 = ⊥ := rfl

/-- Before any key the sum of weights is zero. -/
theorem den_zero (s : ℕ → EReal) : den s 0 = 0 := rfl

/-- Before any key the weighted sum is zero. -/
theorem num_zero (s v : ℕ → EReal) : num s v 0 = 0 := rfl

/-- The maximum of the first `n` scores depends on those scores only. -/
theorem top_congr {s s' : ℕ → EReal} {n : ℕ} (h : ∀ j < n, s j = s' j) : top s n = top s' n :=
  Finset.sup_congr rfl fun j hj => h j (Finset.mem_range.mp hj)

/-- Keys after the first `n` whose score is `-∞` change nothing: the maximum. -/
theorem top_extend (s : ℕ → EReal) (n k : ℕ) (h : ∀ j, n ≤ j → s j = ⊥) : top s (n + k) = top s n := by
  rw [top_add, max_eq_left]
  exact Finset.sup_le fun t _ => by rw [h _ (Nat.le_add_right _ _)]; exact bot_le

/-- The weight of a score of `-∞` is zero, whatever the maximum. -/
theorem wt_bot (m : EReal) : wt ⊥ m = 0 := by
  unfold wt; rw [EReal.bot_sub]; rfl

/-- Keys after the first `n` whose score is `-∞` change nothing: the sum of weights. -/
theorem den_extend (s : ℕ → EReal) (n k : ℕ) (h : ∀ j, n ≤ j → s j = ⊥) : den s (n + k) = den s n := by
  unfold den
  rw [top_extend s n k h, Finset.sum_range_add, Finset.sum_eq_zero (s := Finset.range k), add_zero]
  intro t _; rw [h _ (Nat.le_add_right _ _), wt_bot]

/-- Keys after the first `n` whose score is `-∞` change nothing: the weighted sum. -/
theorem num_extend (s v : ℕ → EReal) (n k : ℕ) (h : ∀ j, n ≤ j → s j = ⊥) : num s v (n + k) = num s v n := by
  unfold num
  rw [top_extend s n k h, Finset.sum_range_add, Finset.sum_eq_zero (s := Finset.range k), add_zero]
  intro t _; rw [h _ (Nat.le_add_right _ _), wt_bot, mul_zero]

/-- The sum of weights is never negative. -/
theorem den_nonneg (s : ℕ → EReal) (n : ℕ) : 0 ≤ den s n := Finset.sum_nonneg fun _ _ => wt_nonneg _ _

/-- Where the sum of weights is zero, so is every weight, and with them the weighted sum. -/
theorem num_eq_zero (s v : ℕ → EReal) (n : ℕ) (h : den s n = 0) : num s v n = 0 := by
  refine Finset.sum_eq_zero fun j hj => ?_
  rw [(Finset.sum_eq_zero_iff_of_nonneg fun _ _ => wt_nonneg _ _).mp h j hj, mul_zero]

/-- DIVIDING AFTER OR BEFORE THE SUM: the kernel's weighted sum times `g / l` is the sum of the values times their
    probabilities — a weight over the sum of weights, zero where that sum is zero — times `g`. -/
theorem num_mul_div (s v : ℕ → EReal) (n : ℕ) (g : EReal) :
    num s v n * Ideal.div g (den s n)
      = (∑ j ∈ Finset.range n, (if 0 < den s n then Ideal.div (wt (s j) (top s n)) (den s n) else 0) * v j) * g := by
  rcases (den_nonneg s n).eq_or_lt with h | h
  · rw [num_eq_zero s v n h.symm, zero_mul, ← h, Finset.sum_eq_zero, zero_mul]
    intro j _; rw [if_neg (lt_irrefl _), zero_mul]
  · have h0 : den s n ≠ 0 := h.ne'
    have hi : 0 ≤ (den s n)⁻¹ := EReal.inv_nonneg_of_nonneg h.le
    have ht : (den s n)⁻¹ ≠ ⊤ := by
      generalize den s n = x at *
      induction x with
      | bot => exact absurd h (by simp)
      | top => simp
      | coe r => rw [← EReal.coe_inv]; exact EReal.coe_ne_top _
    rw [show Ideal.div g (den s n) = g * (den s n)⁻¹ from if_neg h0, num, mul_comm g, ← mul_assoc,
      sum_mul_of_nonneg _ _ hi ht]
    congr 1
    refine Finset.sum_congr rfl fun j _ => ?_
    rw [if_pos h, show Ideal.div (wt (s j) (top s n)) (den s n) = wt (s j) (top s n) * (den s n)⁻¹ from if_neg h0,
      mul_assoc, mul_comm]

/-! ## Base two and base e -/

/-- Multiplying by a positive real is monotone, so it moves through a maximum. -/
theorem sup_mul {ι : Type*} (S : Finset ι) (s : ι → EReal) {c : ℝ} (hc : 0 < c) :
    S.sup (fun j => s j * (c : EReal)) = S.sup s * (c : EReal) := by
  classical
  have hmono : Monotone fun x : EReal => x * (c : EReal) := fun a b h =>
    mul_le_mul_of_nonneg_right h (by exact_mod_cast hc.le)
  induction S using Finset.induction_on with
  | empty => simp [EReal.bot_mul_coe_of_pos hc]
  | insert x S hx ih => rw [Finset.sup_insert, Finset.sup_insert, ih]; exact (hmono.map_sup _ _).symm

/-- `2` to the power `a / ln 2 - b / ln 2` is `e` to the power `a - b`, at every pair of extended reals. -/
theorem wt_log (a b : EReal) :
    wt (a * ((Real.log 2)⁻¹ : ℝ)) (b * ((Real.log 2)⁻¹ : ℝ)) = Ideal.exp (a - b) := by
  have hc : (0 : ℝ) < (Real.log 2)⁻¹ := inv_pos.mpr (Real.log_pos (by norm_num))
  unfold wt
  induction a with
  | bot => rw [EReal.bot_mul_coe_of_pos hc]; simp
  | top =>
    rw [EReal.top_mul_coe_of_pos hc]
    induction b with
    | bot => rw [EReal.bot_mul_coe_of_pos hc]; simp
    | top => rw [EReal.top_mul_coe_of_pos hc]; simp
    | coe y => rw [← EReal.coe_mul, EReal.top_sub_coe, EReal.top_sub_coe]; rfl
  | coe x =>
    induction b with
    | bot => rw [EReal.bot_mul_coe_of_pos hc, ← EReal.coe_mul, EReal.coe_sub_bot, EReal.coe_sub_bot]; rfl
    | top => rw [EReal.top_mul_coe_of_pos hc, ← EReal.coe_mul, EReal.sub_top, EReal.sub_top]; rfl
    | coe y =>
      rw [← EReal.coe_mul, ← EReal.coe_mul, ← EReal.coe_sub, ← EReal.coe_sub, Ideal.exp2_coe, Ideal.exp_coe]
      congr 1
      show (2 : ℝ) ^ (x * (Real.log 2)⁻¹ - y * (Real.log 2)⁻¹) = Real.exp (x - y)
      rw [Real.rpow_def_of_pos (by norm_num), ← sub_mul]
      congr 1
      have : Real.log 2 ≠ 0 := (Real.log_pos (by norm_num)).ne'
      field_simp

end Cert.Attn

end
-- ==== Proof.Attn.Tile.lean ====
/- One key tile over the extended reals, read at an index: scores, maxima, weights and weighted values. -/
module

public import proofs.«01_k».proof.Proof.Attn.Block
public import proofs.«01_k».proof.Proof.Attn.Online

@[expose] public section

noncomputable section

namespace Cert.KernelIdeal.Gen

open Idealize.ShloMosaic Idealize.ShloMosaic.TcCoe

/-- The unit a score is measured in. -/
def unit : EReal := (((1 / 8) * (Real.log 2)⁻¹ : ℝ) : EReal)

/-- The score scale the kernel multiplies by: the given scale times the unit. -/
theorem pay4_eq (c : EReal) : k0_pay4 (F := Ideal) c = c * unit := by
  unfold k0_pay4
  dsimp only
  rw [IdealRules.named_const.ideal_named_scalar _ _ _ _ rfl]
  rfl

/-- Scores of a whole key tile. -/
theorem pay8_at (q : FVec Ideal S256x256 .fp8e4m3) (c : EReal) (kb : Vec Ideal S1x256x256 .fp8e4m3) (r col : Fin 256) :
    k0_pay8 (F := Ideal) q c kb (ix2 r col) = (∑ l : Fin 256, kb (ix3 0 r l) * q (ix2 col l)) * (c * unit) := by
  pointwise [k0_pay8]
  rw [pay4_eq]

/-- The running maximum after a key tile. -/
theorem pay9_at (q : FVec Ideal S256x256 .fp8e4m3) (c : EReal) (kb : Vec Ideal S1x256x256 .fp8e4m3) (m : FVec Ideal S1x256 .f32) (col : Fin 256) :
    k0_pay9 (F := Ideal) q c m kb (ix2 0 col) = max (m (ix2 0 col)) (Finset.univ.sup fun t : Fin 256 => k0_pay8 (F := Ideal) q c kb (ix2 t col)) := by
  pointwise [k0_pay9]
  rfl

/-- The weights of a key tile. -/
theorem pay10_at (q : FVec Ideal S256x256 .fp8e4m3) (c : EReal) (kb : Vec Ideal S1x256x256 .fp8e4m3) (m : FVec Ideal S1x256 .f32) (r col : Fin 256) :
    k0_pay10 (F := Ideal) q c m kb (ix2 r col) = Attn.wt (k0_pay8 (F := Ideal) q c kb (ix2 r col)) (k0_pay9 (F := Ideal) q c m kb (ix2 0 col)) := by
  pointwise [k0_pay10]
  rfl

/-- The running sum after a key tile. -/
theorem pay12_at (q : FVec Ideal S256x256 .fp8e4m3) (c : EReal) (kb : Vec Ideal S1x256x256 .fp8e4m3) (m l : FVec Ideal S1x256 .f32) (col : Fin 256) :
    k0_pay12 (F := Ideal) q c m l kb (ix2 0 col) = l (ix2 0 col) * Attn.wt (m (ix2 0 col)) (k0_pay9 (F := Ideal) q c m kb (ix2 0 col)) + ∑ r : Fin 256, k0_pay10 (F := Ideal) q c m kb (ix2 r col) := by
  pointwise [k0_pay12, k0_pay11]
  rfl

/-- The running weighted values after a key tile. -/
theorem pay13_at (q : FVec Ideal S256x256 .fp8e4m3) (c : EReal) (kb vb : Vec Ideal S1x256x256 .fp8e4m3) (m : FVec Ideal S1x256 .f32) (acc : FVec Ideal S256x256 .f32) (r col : Fin 256) :
    k0_pay13 (F := Ideal) q c m acc kb vb (ix2 r col) = acc (ix2 r col) * Attn.wt (m (ix2 0 col)) (k0_pay9 (F := Ideal) q c m kb (ix2 0 col)) + ∑ t : Fin 256, vb (ix3 0 t r) * k0_pay10 (F := Ideal) q c m kb (ix2 t col) := by
  pointwise [k0_pay13, k0_pay11]
  rfl

end Cert.KernelIdeal.Gen
end
-- ==== Proof.Attn.Diag.lean ====
/- The masked diagonal tile, the queries of one head and the stored block over the extended reals, read at an index. -/
module

public import proofs.«01_k».proof.Proof.Attn.Tile

@[expose] public section

noncomputable section

namespace Cert.KernelIdeal.Gen

open Idealize.ShloMosaic Idealize.ShloMosaic.TcCoe

/-- The mask value is the least extended real. -/
theorem mask_eq : (Named.named κ "mask" (0xF149F2CA#32) : Ideal .f32) = ⊥ :=
  IdealRules.named_const.ideal_named_scalar _ _ _ _ rfl

/-- A selection on a decided bit. -/
theorem select_ofBool {α : Type} (p : Prop) [Decidable p] (a b : α) :
    Scalar.select (BitVec.ofBool (decide p)) a b = if p then a else b := by
  by_cases h : p <;> simp [h, Scalar.select]

/-- Scores of the diagonal key tile: keys after the query are masked. -/
theorem pay21_at (q : FVec Ideal S256x256 .fp8e4m3) (c : EReal) (kb : Vec Ideal S1x256x256 .fp8e4m3) (t col : Fin 256) :
    k0_pay21 (F := Ideal) q c kb (ix2 t col) = if t.val ≤ col.val then k0_pay8 (F := Ideal) q c kb (ix2 t col) else ⊥ := by
  rw [pay8_at]
  pointwise [k0_pay21]
  rw [pay4_eq, mask_eq, WordCmp.cmpi_sle_ofNat (by have := t.isLt; omega) (by have := col.isLt; omega), select_ofBool]

/-- The running maximum after the diagonal tile. -/
theorem pay22_at (q : FVec Ideal S256x256 .fp8e4m3) (c : EReal) (kb : Vec Ideal S1x256x256 .fp8e4m3) (m : FVec Ideal S1x256 .f32) (col : Fin 256) :
    k0_pay22 (F := Ideal) q c m kb (ix2 0 col) = max (m (ix2 0 col)) (Finset.univ.sup fun t : Fin 256 => k0_pay21 (F := Ideal) q c kb (ix2 t col)) := by
  pointwise [k0_pay22]
  rfl

/-- The weights of the diagonal tile. -/
theorem pay23_at (q : FVec Ideal S256x256 .fp8e4m3) (c : EReal) (kb : Vec Ideal S1x256x256 .fp8e4m3) (m : FVec Ideal S1x256 .f32) (r col : Fin 256) :
    k0_pay23 (F := Ideal) q c m kb (ix2 r col) = Attn.wt (k0_pay21 (F := Ideal) q c kb (ix2 r col)) (k0_pay22 (F := Ideal) q c m kb (ix2 0 col)) := by
  pointwise [k0_pay23]
  rfl

/-- The factor that takes the carried values to the new maximum. -/
theorem pay24_at (q : FVec Ideal S256x256 .fp8e4m3) (c : EReal) (kb : Vec Ideal S1x256x256 .fp8e4m3) (m : FVec Ideal S1x256 .f32) (col : Fin 256) :
    k0_pay24 (F := Ideal) q c m kb (ix2 0 col) = Attn.wt (m (ix2 0 col)) (k0_pay22 (F := Ideal) q c m kb (ix2 0 col)) := by
  pointwise [k0_pay24]
  rfl

/-- The whole sum of weights. -/
theorem pay25_at (q : FVec Ideal S256x256 .fp8e4m3) (c : EReal) (kb : Vec Ideal S1x256x256 .fp8e4m3) (m l : FVec Ideal S1x256 .f32) (col : Fin 256) :
    k0_pay25 (F := Ideal) q c m l kb (ix2 0 col) = l (ix2 0 col) * Attn.wt (m (ix2 0 col)) (k0_pay22 (F := Ideal) q c m kb (ix2 0 col)) + ∑ r : Fin 256, k0_pay23 (F := Ideal) q c m kb (ix2 r col) := by
  rw [← pay24_at]
  pointwise [k0_pay25]

/-- The stored block: row `64 h + d` of the weighted values times the value scale over the sum of weights. -/
theorem pay27_at (h : Fin 4) (acc : FVec Ideal S256x256 .f32) (v : FVec Ideal S256x256 .bf16) (al l : FVec Ideal S1x256 .f32) (p : FVec Ideal S256x256 .bf16)
    (z : FVec Ideal S256x256 .f32) (vs : EReal) (r : Fin 256) (d : Fin 64) (row : Fin 256) (hrow : row.val = 64 * h.val + d.val) :
    k0_pay27 (F := Ideal) (BitVec.ofNat 32 h.val) acc v al l p z vs (ix3 0 r d)
      = (acc (ix2 row r) * al (ix2 0 r) + (z (ix2 row r) + ∑ x : Fin 256, v (ix2 x row) * p (ix2 x r))) * Ideal.div vs (l (ix2 0 r)) := by
  pointwise [k0_pay27]
  match h, hrow with
  | 0, hrow =>
    have e : (⟨d.val, by have := d.isLt; omega⟩ : Fin 256) = row := Fin.ext (by show d.val = _; rw [hrow]; simp)
    rw [← e]
    rfl
  | 1, hrow =>
    have e : (⟨64 + d.val, by have := d.isLt; omega⟩ : Fin 256) = row := Fin.ext (by show 64 + d.val = _; rw [hrow]; rfl)
    rw [← e]
    rfl
  | 2, hrow =>
    have e : (⟨128 + d.val, by have := d.isLt; omega⟩ : Fin 256) = row := Fin.ext (by show 128 + d.val = _; rw [hrow]; rfl)
    rw [← e]
    rfl
  | 3, hrow =>
    have e : (⟨192 + d.val, by have := d.isLt; omega⟩ : Fin 256) = row := Fin.ext (by show 192 + d.val = _; rw [hrow]; rfl)
    rw [← e]
    rfl

/-- The lane's head, as the kernel's floor division computes it. -/
theorem laneHead_at (r l : Fin 256) : laneHead (ix2 r l) = BitVec.ofNat 32 (l.val / 64) := by
  pointwise [laneHead]
  clear r
  revert l
  decide +kernel

/-- The queries of head `g` sit in the lanes of key head `h`; every other lane is zero. -/
theorem headQ_at (g h : Fin 4) (x : Vec Ideal S1x256x256 .fp8e4m3) (r l : Fin 256) :
    headQ (F := Ideal) (BitVec.ofNat 32 g.val) (BitVec.ofNat 32 h.val) x (ix2 r l)
      = if l.val / 64 = h.val then x (ix3 0 r ⟨64 * g.val + l.val % 64, by have := g.isLt; omega⟩) else 0 := by
  pointwise [headQ, k0_pay2]
  rw [laneHead_at, WordCmp.cmpi_eq_ofNat (by have := l.isLt; omega) (by have := h.isLt; omega), select_ofBool, Ideal.ofBits_zero]
  refine if_ctx_congr Iff.rfl (fun hl => ?_) (fun _ => rfl)
  congr 2
  apply Fin.ext
  have key : ∀ (g h : Fin 4) , (Scalar.remsi (Scalar.addi (Scalar.muli (Scalar.subi (BitVec.ofNat 32 h.val) (BitVec.ofNat 32 g.val)) 64#32) 256#32) 256#32).toNat % 256 = (64 * h.val + 256 - 64 * g.val) % 256 := by
    decide +kernel
  have := key g h
  have := g.isLt
  have := h.isLt
  show (_ + _ - _ % _) % _ = _
  rw [key]
  show _ = 64 * g.val + l.val % 64
  omega

end Cert.KernelIdeal.Gen
end
-- ==== Proof.Attn.Head.lean ====
/- What one head stores, over the extended reals: its carried values are the maximum, the sum of weights and the
   weighted values of the keys so far, and the stored block is their masked quotient. -/
module

public import proofs.«01_k».proof.Proof.Attn.Diag

@[expose] public section

noncomputable section

namespace Cert.KernelIdeal.Gen

open Idealize.ShloMosaic Idealize.ShloMosaic.TcCoe

/-- The score of key `j` for the query in row `col`, in units of powers of two. -/
def score (q : FVec Ideal S256x256 .fp8e4m3) (c : EReal) (K : Vec Ideal S1x8192x256 .fp8e4m3) (col : Fin 256) (j : ℕ) : EReal :=
  (∑ l : Fin 256, K (ix3 0 ⟨j % 8192, Nat.mod_lt _ (by norm_num)⟩ l) * q (ix2 col l)) * (c * unit)

/-- The score with the keys after query `b` masked. -/
def masked (s : ℕ → EReal) (b : ℕ) (j : ℕ) : EReal := if j ≤ b then s j else ⊥

/-- Lane `r` of the values, by key. -/
def valueLane (V : Vec Ideal S1x8192x256 .fp8e4m3) (r : Fin 256) (j : ℕ) : EReal :=
  V (ix3 0 ⟨j % 8192, Nat.mod_lt _ (by norm_num)⟩ r)

/-- The scores of key tile `n`. -/
theorem tile_score (q : FVec Ideal S256x256 .fp8e4m3) (c : EReal) (K : Vec Ideal S1x8192x256 .fp8e4m3) (n : ℕ) (t col : Fin 256) :
    k0_pay8 (F := Ideal) q c (tile K n) (ix2 t col) = score q c K col (256 * n + t.val) :=
  pay8_at q c (tile K n) t col

/-- The carried values before key tile `n` are the online maximum, sum and weighted values of the first `256 n` keys. -/
theorem carry_at (q : FVec Ideal S256x256 .fp8e4m3) (c : EReal) (K V : Vec Ideal S1x8192x256 .fp8e4m3) (n : ℕ) :
    (∀ col : Fin 256, (carry (F := Ideal) q c K V n).1 (ix2 0 col) = Attn.top (score q c K col) (256 * n))
    ∧ (∀ col : Fin 256, (carry (F := Ideal) q c K V n).2.1 (ix2 0 col) = Attn.den (score q c K col) (256 * n))
    ∧ (∀ r col : Fin 256, (carry (F := Ideal) q c K V n).2.2 (ix2 r col) = Attn.num (score q c K col) (valueLane V r) (256 * n)) := by
  induction n with
  | zero =>
    refine ⟨fun col => ?_, fun col => ?_, fun r col => ?_⟩
    · exact mask_eq
    · exact Ideal.ofBits_zero .f32
    · exact Ideal.ofBits_zero .f32
  | succ n ih =>
    obtain ⟨h1, h2, h3⟩ := ih
    have e9 : ∀ col : Fin 256, k0_pay9 (F := Ideal) q c (carry (F := Ideal) q c K V n).1 (tile K n) (ix2 0 col)
        = Attn.top (score q c K col) (256 * n + 256) := fun col => by
      rw [pay9_at, h1, Attn.top_add]
      simp only [tile_score]
    have e10 : ∀ t col : Fin 256, k0_pay10 (F := Ideal) q c (carry (F := Ideal) q c K V n).1 (tile K n) (ix2 t col)
        = Attn.wt (score q c K col (256 * n + t.val)) (Attn.top (score q c K col) (256 * n + 256)) := fun t col => by
      rw [pay10_at, e9, tile_score]
    refine ⟨fun col => e9 col, fun col => ?_, fun r col => ?_⟩
    · refine (pay12_at q c (tile K n) _ _ col).trans ?_
      rw [h1, h2, e9]
      simp only [e10]
      exact (Attn.den_add _ _ _).symm
    · refine (pay13_at q c (tile K n) (tile V n) _ _ r col).trans ?_
      rw [h1, h3, e9]
      simp only [e10]
      exact (Attn.num_add _ _ _ _).symm

/-- The block a head stores: row `r`, column `d` is the weighted values of lane `64 h + d` over the keys up to the query,
    times the value scale over the sum of weights. -/
theorem headOut_at (h : Fin 4) (n : ℕ) (q : FVec Ideal S256x256 .fp8e4m3) (c vs : EReal) (K V : Vec Ideal S1x8192x256 .fp8e4m3)
    (r : Fin 256) (d : Fin 64) (row : Fin 256) (hrow : row.val = 64 * h.val + d.val) :
    headOut (F := Ideal) (BitVec.ofNat 32 h.val) n q c vs K V (ix3 0 r d)
      = Attn.num (masked (score q c K r) (256 * n + r.val)) (valueLane V row) (256 * n + 256)
        * Ideal.div vs (Attn.den (masked (score q c K r) (256 * n + r.val)) (256 * n + 256)) := by
  obtain ⟨h1, h2, h3⟩ := carry_at q c K V n
  set s := score q c K r with hs
  set w := masked s (256 * n + r.val) with hw
  have hlow : ∀ j < 256 * n, s j = w j := fun j hj => by
    rw [hw]; unfold masked; rw [if_pos (by omega)]
  have ht : Attn.top s (256 * n) = Attn.top w (256 * n) := Attn.top_congr hlow
  have hd : Attn.den s (256 * n) = Attn.den w (256 * n) := by
    unfold Attn.den; rw [ht]; exact Finset.sum_congr rfl fun j hj => by rw [hlow j (Finset.mem_range.mp hj)]
  have hn : Attn.num s (valueLane V row) (256 * n) = Attn.num w (valueLane V row) (256 * n) := by
    unfold Attn.num; rw [ht]; exact Finset.sum_congr rfl fun j hj => by rw [hlow j (Finset.mem_range.mp hj)]
  have e21 : ∀ t : Fin 256, k0_pay21 (F := Ideal) q c (tile K n) (ix2 t r) = w (256 * n + t.val) := fun t => by
    rw [pay21_at, tile_score, hw]; unfold masked
    exact if_congr (by omega) rfl rfl
  have e22 : k0_pay22 (F := Ideal) q c (carry (F := Ideal) q c K V n).1 (tile K n) (ix2 0 r) = Attn.top w (256 * n + 256) := by
    rw [pay22_at, h1, ht, Attn.top_add]
    simp only [e21]
  have e23 : ∀ t : Fin 256, k0_pay23 (F := Ideal) q c (carry (F := Ideal) q c K V n).1 (tile K n) (ix2 t r)
      = Attn.wt (w (256 * n + t.val)) (Attn.top w (256 * n + 256)) := fun t => by
    rw [pay23_at, e22, e21]
  have e25 : k0_pay25 (F := Ideal) q c (carry (F := Ideal) q c K V n).1 (carry (F := Ideal) q c K V n).2.1 (tile K n) (ix2 0 r)
      = Attn.den w (256 * n + 256) := by
    rw [pay25_at, h1, h2, e22, ht, hd, Attn.den_add]
    simp only [e23]
  have eacc : (carry (F := Ideal) q c K V n).2.2 (ix2 row r) * k0_pay24 (F := Ideal) q c (carry (F := Ideal) q c K V n).1 (tile K n) (ix2 0 r)
      + ((constant S256x256 .f32 0x00000000#32 : FVec Ideal S256x256 .f32) (ix2 row r)
        + ∑ x : Fin 256, k0_pay20 (F := Ideal) (tile V n) (ix2 x row) * k0_pay26 (F := Ideal) q c (carry (F := Ideal) q c K V n).1 (tile K n) (ix2 x r))
      = Attn.num w (valueLane V row) (256 * n + 256) := by
    have z : (constant S256x256 .f32 0x00000000#32 : FVec Ideal S256x256 .f32) (ix2 row r) = 0 := Ideal.ofBits_zero .f32
    have e20 : ∀ x : Fin 256, k0_pay20 (F := Ideal) (tile V n) (ix2 x row) = valueLane V row (256 * n + x.val) := fun x => by
      pointwise [k0_pay20]
      rfl
    have e26 : ∀ x : Fin 256, k0_pay26 (F := Ideal) q c (carry (F := Ideal) q c K V n).1 (tile K n) (ix2 x r)
        = Attn.wt (w (256 * n + x.val)) (Attn.top w (256 * n + 256)) := fun x => by
      rw [← e23 x]
      pointwise [k0_pay26]
    rw [z, zero_add, pay24_at, e22, h1, h3, ht, hn, Attn.num_add]
    simp only [e20, e26]
  refine (pay27_at h _ _ _ _ _ _ vs r d row hrow).trans ?_
  rw [eacc, e25]

end Cert.KernelIdeal.Gen
end
-- ==== Proof.Attn.Equation.lean ====
/- The equation between the two ways to weigh values: powers of two over the keys up to the query, the quotient taken
   last, and a softmax over all keys, masked. -/
module

public import proofs.«01_k».proof.Proof.Attn.Online

@[expose] public section

noncomputable section

namespace Cert.Attn

open Idealize.ShloMosaic

/-- A softmax over `N` scores, guarded where its sum is not positive, that weighs the values `v`. -/
def softmaxSum (N : ℕ) (S v : ℕ → EReal) : EReal :=
  ∑ j : Fin N,
    (if 0 < ∑ i : Fin N, Ideal.exp (S i - Finset.univ.sup fun x : Fin N => S x)
      then Ideal.div (Ideal.exp (S j - Finset.univ.sup fun x : Fin N => S x))
        (∑ i : Fin N, Ideal.exp (S i - Finset.univ.sup fun x : Fin N => S x))
      else 0) * v j

/-- The maximum of the first `N` scores over either way to number them. -/
theorem top_univ (s : ℕ → EReal) (N : ℕ) : top s N = Finset.univ.sup fun x : Fin N => s x := by
  have h := top_add s 0 N
  rw [zero_add, top_zero] at h
  rw [h, max_eq_right bot_le]
  simp only [zero_add]

/-- Weighted values of the first `n` keys in powers of two, divided by their sum last, are the softmax of all `N` scores
    when every score from `n` on is masked. -/
theorem online_eq_softmax (S s v : ℕ → EReal) (n N : ℕ) (hn : n ≤ N) (vs : EReal)
    (hs : ∀ j, s j = S j * ((Real.log 2)⁻¹ : ℝ)) (hm : ∀ j, n ≤ j → S j = ⊥) :
    num s v n * Ideal.div vs (den s n) = softmaxSum N S v * vs := by
  have hl : (0 : ℝ) < (Real.log 2)⁻¹ := inv_pos.mpr (Real.log_pos (by norm_num))
  obtain ⟨k, rfl⟩ := Nat.exists_eq_add_of_le hn
  have hb : ∀ j, n ≤ j → s j = ⊥ := fun j hj => by
    rw [hs, hm j hj, EReal.bot_mul_coe_of_pos hl]
  rw [← num_extend s v n k hb, ← den_extend s n k hb, num_mul_div]
  have hw : ∀ j, wt (s j) (top s (n + k)) = Ideal.exp (S j - Finset.univ.sup fun x : Fin (n + k) => S x) := fun j => by
    rw [top_univ]
    simp only [hs]
    rw [sup_mul _ _ hl, wt_log]
  have hd : den s (n + k) = ∑ i : Fin (n + k), Ideal.exp (S i - Finset.univ.sup fun x : Fin (n + k) => S x) := by
    unfold den
    rw [Finset.sum_range]
    exact Finset.sum_congr rfl fun j _ => hw j
  rw [hd, Finset.sum_range]
  unfold softmaxSum
  congr 1
  exact Finset.sum_congr rfl fun j _ => by rw [hw]

end Cert.Attn

end
-- ==== Proof.Attn.Reference.lean ====
/- What the reference computes, read at an index: the softmax of a query's masked scores weighs the values. -/
module

public import proofs.«01_k».proof.Proof.Gen.ReferenceIdeal.Value
public import proofs.«01_k».proof.Proof.Attn.Equation
public import Idealize.ShloMosaic.Lib.Pointwise

@[expose] public section

noncomputable section

namespace Cert.ReferenceIdeal.Gen

open Idealize.ShloMosaic Idealize.ShloMosaic.TcCoe

/-- The masked score of key `j` for query `t` of batch `b`, key head `h`, group member `g`. -/
def scoreRef (x : Vec Ideal S8x8192x1024 .fp8e4m3) (k : Vec Ideal S8x8192x256 .fp8e4m3) (qs : Vec Ideal S16 .f32) (ks : Vec Ideal S4 .f32)
    (b : Fin 8) (h g : Fin 4) (t : Fin 8192) (j : ℕ) : EReal :=
  if j ≤ t.val then
    (∑ d : Fin 64, x (ix3 b t ⟨h.val * 256 + g.val * 64 + d.val, by have := h.isLt; have := g.isLt; have := d.isLt; omega⟩)
        * k (ix3 b ⟨j % 8192, Nat.mod_lt _ (by norm_num)⟩ ⟨h.val * 64 + d.val, by have := h.isLt; have := d.isLt; omega⟩))
      * (qs (ix1 ⟨h.val * 4 + g.val, by have := h.isLt; have := g.isLt; omega⟩) * ks (ix1 h) * (((1 : ℝ) / 8 : ℝ) : EReal))
  else ⊥

/-- Lane `d` of head `h` of the values of batch `b`, by key. -/
def valueRef (v : Vec Ideal S8x8192x256 .fp8e4m3) (b : Fin 8) (h : Fin 4) (d : Fin 64) (j : ℕ) : EReal :=
  v (ix3 b ⟨j % 8192, Nat.mod_lt _ (by norm_num)⟩ ⟨h.val * 64 + d.val, by have := h.isLt; have := d.isLt; omega⟩)

/-- The pattern `0x3E000000` is one eighth. -/
theorem eighth : Ideal.ofBits .f32 0x3E000000#32 = (((1 : ℝ) / 8 : ℝ) : EReal) := by
  simp [Ideal.ofBits, Ideal.ieee, -EReal.coe_mul]; norm_num

/-- The pattern `0xFF800000` is the least extended real. -/
theorem neg_inf : Ideal.ofBits .f32 0xFF800000#32 = ⊥ := rfl

/-- A selection on a decided bit. -/
theorem select_ofBool {α : Type} (p : Prop) [Decidable p] (a b : α) :
    Scalar.select (BitVec.ofBool (decide p)) a b = if p then a else b := by
  by_cases h : p <;> simp [h, Scalar.select]

/-- A masked score, as the reference's selection on positions. -/
theorem select_score (x : Vec Ideal S8x8192x1024 .fp8e4m3) (k : Vec Ideal S8x8192x256 .fp8e4m3) (qs : Vec Ideal S16 .f32) (ks : Vec Ideal S4 .f32)
    (b : Fin 8) (h g : Fin 4) (t j : Fin 8192) :
    Scalar.select (IntOp.cmpi CmpIPredicate.sle (BitVec.ofNat 32 j.val) (BitVec.ofNat 32 t.val))
      ((∑ d : Fin 64, x (ix3 b t ⟨h.val * 256 + g.val * 64 + d.val, by have := h.isLt; have := g.isLt; have := d.isLt; omega⟩)
          * k (ix3 b j ⟨h.val * 64 + d.val, by have := h.isLt; have := d.isLt; omega⟩))
        * (qs (ix1 ⟨h.val * 4 + g.val, by have := h.isLt; have := g.isLt; omega⟩) * ks (ix1 h) * Ideal.ofBits .f32 0x3E000000#32))
      (Ideal.ofBits .f32 0xFF800000#32)
      = scoreRef x k qs ks b h g t j.val := by
  have hj : (⟨j.val % 8192, Nat.mod_lt _ (by norm_num)⟩ : Fin 8192) = j := Fin.ext (Nat.mod_eq_of_lt j.isLt)
  rw [WordCmp.cmpi_sle_ofNat (by have := j.isLt; omega) (by have := t.isLt; omega), select_ofBool, eighth, neg_inf]
  unfold scoreRef
  rw [hj]

/-- The weight of key `j`: the exponential of its score less the greatest. -/
theorem pay3_at (x : Vec Ideal S8x8192x1024 .fp8e4m3) (k : Vec Ideal S8x8192x256 .fp8e4m3) (qs : Vec Ideal S16 .f32) (ks : Vec Ideal S4 .f32)
    (b : Fin 8) (h g : Fin 4) (t j : Fin 8192) :
    k0_pay3 (F := Ideal) x k qs ks (ix5 b h g t j)
      = Ideal.exp (scoreRef x k qs ks b h g t j - Finset.univ.sup fun i : Fin 8192 => scoreRef x k qs ks b h g t i) := by
  simp only [← select_score x k qs ks b h g t]
  pointwise [k0_pay3]
  rfl

/-- The sum of the weights. -/
theorem pay4_at (x : Vec Ideal S8x8192x1024 .fp8e4m3) (k : Vec Ideal S8x8192x256 .fp8e4m3) (qs : Vec Ideal S16 .f32) (ks : Vec Ideal S4 .f32)
    (b : Fin 8) (h g : Fin 4) (t : Fin 8192) :
    k0_pay4 (F := Ideal) x k qs ks (ix5 b h g t 0) = ∑ j : Fin 8192, k0_pay3 (F := Ideal) x k qs ks (ix5 b h g t j) := by
  pointwise [k0_pay4]

/-- The guard: the sum of the weights is positive. -/
theorem pay5_at (x : Vec Ideal S8x8192x1024 .fp8e4m3) (k : Vec Ideal S8x8192x256 .fp8e4m3) (qs : Vec Ideal S16 .f32) (ks : Vec Ideal S4 .f32)
    (b : Fin 8) (h g : Fin 4) (t : Fin 8192) {α : Type} (u w : α) :
    Scalar.select (k0_pay5 (F := Ideal) x k qs ks (ix5 b h g t 0)) u w
      = if 0 < k0_pay4 (F := Ideal) x k qs ks (ix5 b h g t 0) then u else w := by
  pointwise [k0_pay5]

/-- The reference's values, lane by lane. -/
theorem pay2_at (v : Vec Ideal S8x8192x256 .fp8e4m3) (b : Fin 8) (h : Fin 4) (j : Fin 8192) (d : Fin 64) :
    k0_pay2 (F := Ideal) v (ix3 ⟨b.val * 4 + h.val, by have := h.isLt; have := b.isLt; omega⟩ j d) = valueRef v b h d j.val := by
  have hj : (⟨j.val % 8192, Nat.mod_lt _ (by norm_num)⟩ : Fin 8192) = j := Fin.ext (Nat.mod_eq_of_lt j.isLt)
  unfold valueRef
  rw [hj]
  pointwise [k0_pay2]

/-- The last product, lane by lane: the guarded quotients weigh the values, times the value scale. -/
theorem pay1_at (v : FVec Ideal S32x8192x64 .bf16) (p : FVec Ideal S8x4x4x8192x8192 .f32) (s : FVec Ideal S8x4x4x8192x1 .f32)
    (o : IVec S8x4x4x8192x1 1) (vs : Vec Ideal S4 .f32)
    (b : Fin 8) (t : Fin 8192) (h g : Fin 4) (d : Fin 64) (C : Fin 1024) (hC : C.val = 256 * h.val + 64 * g.val + d.val) :
    k0_pay1 (F := Ideal) v p s o vs (ix3 b t C)
      = (∑ j : Fin 8192, Scalar.select (o (ix5 b h g t 0))
          (Ideal.div (p (ix5 b h g t j)) (s (ix5 b h g t 0)) * v (ix3 ⟨b.val * 4 + h.val, by have := h.isLt; have := b.isLt; omega⟩ j d)) 0)
        * vs (ix1 h) := by
  have := h.isLt; have := g.isLt; have := d.isLt; have := b.isLt; have := t.isLt
  have e1 : (⟨(b.val * 4 + C.val / 256) % 4, Nat.mod_lt _ (by norm_num)⟩ : Fin 4) = h := Fin.ext (by show _ % 4 = _; omega)
  have e2 : (⟨(C.val / 64 % 4 * 8192 + t.val) / 8192, by omega⟩ : Fin 4) = g := Fin.ext (by show _ / 8192 = _; omega)
  have e3 : (⟨b.val * 4 + C.val / 256, by omega⟩ : Fin 32) = ⟨b.val * 4 + h.val, by omega⟩ := Fin.ext (by simp only [Fin.val_mk]; omega)
  have e4 : (⟨C.val % 64, Nat.mod_lt _ (by norm_num)⟩ : Fin 64) = d := Fin.ext (by show _ % 64 = _; omega)
  have e5 : (⟨C.val / 256, by omega⟩ : Fin 4) = h := Fin.ext (by show _ / 256 = _; omega)
  pointwise [k0_pay1]
  simp only [e1, e2, e3, e4, e5]

/-- THE REFERENCE AT AN INDEX: column `256 h + 64 g + d` is the guarded softmax of the masked scores, weighing lane `d` of
    head `h` of the values, times the head's value scale. -/
theorem G6_at (x : Vec Ideal S8x8192x1024 .fp8e4m3) (k v : Vec Ideal S8x8192x256 .fp8e4m3) (qs : Vec Ideal S16 .f32) (ks vs : Vec Ideal S4 .f32)
    (b : Fin 8) (t : Fin 8192) (h g : Fin 4) (d : Fin 64) (C : Fin 1024) (hC : C.val = 256 * h.val + 64 * g.val + d.val) :
    Cert.ReferenceIdeal.Value.G6 (F := Ideal) x k v qs ks vs (ix3 b t C)
      = Attn.softmaxSum 8192 (scoreRef x k qs ks b h g t) (valueRef v b h d) * vs (ix1 h) := by
  refine (pay1_at _ _ _ _ vs b t h g d C hC).trans ?_
  unfold Attn.softmaxSum
  simp only [pay5_at, pay2_at, pay4_at, pay3_at, ite_mul, zero_mul]

end Cert.ReferenceIdeal.Gen
end
-- ==== Proof.Attn.Final.lean ====
/-
The kernel's result array is the reference's: at each grid point the block that is written back is the reference's
value there, and the blocks cover the array.
-/
module

public import proofs.«01_k».proof.Proof.Attn.Windows
public import proofs.«01_k».proof.Proof.Attn.Head
public import proofs.«01_k».proof.Proof.Attn.Reference

@[expose] public section

noncomputable section

namespace Cert.KernelIdeal.Gen

open Idealize.ShloMosaic Idealize.ShloMosaic.TcCoe

/-- A product over all 256 key lanes with queries that are zero outside the 64 lanes of head `h` is the product over
    those lanes. -/
theorem lane_dot (K : Fin 256 → EReal) (Q : Fin 64 → EReal) (h : Fin 4) (q : Fin 256 → EReal)
    (hq : ∀ l : Fin 256, q l = if l.val / 64 = h.val then Q ⟨l.val % 64, Nat.mod_lt _ (by norm_num)⟩ else 0) :
    (∑ l : Fin 256, K l * q l)
      = ∑ d : Fin 64, Q d * K ⟨h.val * 64 + d.val, by have := h.isLt; have := d.isLt; omega⟩ := by
  rw [← Equiv.sum_comp (finProdFinEquiv : Fin 4 × Fin 64 ≃ Fin 256), Fintype.sum_prod_type]
  have val : ∀ (a : Fin 4) (d : Fin 64), ((finProdFinEquiv (a, d) : Fin (4 * 64)).val) = d.val + 64 * a.val := fun a d => rfl
  rw [Finset.sum_eq_single h]
  · refine Finset.sum_congr rfl fun d _ => ?_
    have hd := d.isLt
    rw [hq, if_pos (by rw [val]; omega), mul_comm]
    congr 2
    · apply Fin.ext; show (finProdFinEquiv (h, d) : Fin (4 * 64)).val % 64 = d.val; rw [val]; omega
    · apply Fin.ext; show (finProdFinEquiv (h, d) : Fin (4 * 64)).val = _; rw [val]; show _ = h.val * 64 + d.val; omega
  · intro a _ ha
    refine Finset.sum_eq_zero fun d _ => ?_
    have hd := d.isLt
    have ha' : a.val ≠ h.val := fun e => ha (Fin.ext e)
    rw [hq, if_neg (by rw [val]; omega), mul_zero]
  · intro hn; exact absurd (Finset.mem_univ _) hn

/-- The kernel's masked score of a key, in its units of base two, is the reference's score over the logarithm of two. -/
theorem masked_score (x : Vec Ideal S8x8192x1024 .fp8e4m3) (k : Vec Ideal S8x8192x256 .fp8e4m3) (qs : Vec Ideal S16 .f32) (ks : Vec Ideal S4 .f32)
    (X : Vec Ideal S1x256x256 .fp8e4m3) (K : Vec Ideal S1x8192x256 .fp8e4m3)
    (b : Fin 8) (h g : Fin 4) (r : Fin 256) (T : Fin 8192) (cs : EReal)
    (hX : ∀ (l : Fin 256) (C : Fin 1024), C.val = 256 * h.val + l.val → X (ix3 0 r l) = x (ix3 b T C))
    (hK : ∀ (j : Fin 8192) (l : Fin 256), K (ix3 0 j l) = k (ix3 b j l))
    (hc : cs = qs (ix1 ⟨h.val * 4 + g.val, by have := h.isLt; have := g.isLt; omega⟩) * ks (ix1 h)) (j : ℕ) :
    masked (score (headQ (F := Ideal) (BitVec.ofNat 32 g.val) (BitVec.ofNat 32 h.val) X) cs K r) T.val j
      = Cert.ReferenceIdeal.Gen.scoreRef x k qs ks b h g T j * ((Real.log 2)⁻¹ : ℝ) := by
  have hl : (0 : ℝ) < (Real.log 2)⁻¹ := inv_pos.mpr (Real.log_pos (by norm_num))
  unfold masked Cert.ReferenceIdeal.Gen.scoreRef
  split_ifs with hj
  · unfold score
    have hh := h.isLt
    have hg := g.isLt
    rw [lane_dot (fun l => K (ix3 0 ⟨j % 8192, Nat.mod_lt _ (by norm_num)⟩ l))
      (fun d => x (ix3 b T ⟨h.val * 256 + g.val * 64 + d.val, by have := d.isLt; omega⟩)) h
      (fun l => headQ (F := Ideal) (BitVec.ofNat 32 g.val) (BitVec.ofNat 32 h.val) X (ix2 r l))
      (fun l => by
        rw [headQ_at]
        split_ifs with e
        · exact hX _ _ (by show h.val * 256 + g.val * 64 + l.val % 64 = 256 * h.val + (64 * g.val + l.val % 64); omega)
        · rfl)]
    simp only [hK]
    rw [hc]
    unfold unit
    rw [EReal.coe_mul]
    simp only [mul_assoc]
  · rw [EReal.bot_mul_coe_of_pos hl]

/-- What one head of a grid point computes is the reference's result at the row, head and lane. -/
theorem headOut_ref (x : Vec Ideal S8x8192x1024 .fp8e4m3) (k v : Vec Ideal S8x8192x256 .fp8e4m3) (qs : Vec Ideal S16 .f32) (ks : Vec Ideal S4 .f32)
    (X : Vec Ideal S1x256x256 .fp8e4m3) (K V : Vec Ideal S1x8192x256 .fp8e4m3)
    (b : Fin 8) (n : Fin 32) (h g : Fin 4) (r : Fin 256) (d : Fin 64) (T : Fin 8192) (hT : T.val = 256 * n.val + r.val) (cs vs vs' : EReal)
    (hvs : vs = vs')
    (hX : ∀ (l : Fin 256) (C : Fin 1024), C.val = 256 * h.val + l.val → X (ix3 0 r l) = x (ix3 b T C))
    (hK : ∀ (j : Fin 8192) (l : Fin 256), K (ix3 0 j l) = k (ix3 b j l))
    (hV : ∀ (j : Fin 8192) (l : Fin 256), V (ix3 0 j l) = v (ix3 b j l))
    (hc : cs = qs (ix1 ⟨h.val * 4 + g.val, by have := h.isLt; have := g.isLt; omega⟩) * ks (ix1 h)) :
    headOut (F := Ideal) (BitVec.ofNat 32 h.val) n.val (headQ (BitVec.ofNat 32 g.val) (BitVec.ofNat 32 h.val) X) cs vs K V (ix3 0 r d)
      = Attn.softmaxSum 8192 (Cert.ReferenceIdeal.Gen.scoreRef x k qs ks b h g T) (Cert.ReferenceIdeal.Gen.valueRef v b h d) * vs' := by
  subst hvs
  have hh := h.isLt
  have hd := d.isLt
  have hr := r.isLt
  have hn := n.isLt
  rw [headOut_at h n.val _ cs vs K V r d ⟨h.val * 64 + d.val, by omega⟩ (by show h.val * 64 + d.val = _; omega), ← hT]
  have hv : valueLane V ⟨h.val * 64 + d.val, by omega⟩ = Cert.ReferenceIdeal.Gen.valueRef v b h d := by
    funext j
    unfold valueLane Cert.ReferenceIdeal.Gen.valueRef
    exact hV _ _
  rw [hv]
  refine Attn.online_eq_softmax _ _ _ (256 * n.val + 256) 8192 (by omega) vs
    (masked_score x k qs ks X K b h g r T cs hX hK hc) fun j hj => ?_
  unfold Cert.ReferenceIdeal.Gen.scoreRef
  rw [if_neg (by omega)]

variable (m : (ℓ : Loc nD τ sig) → Buf (Elt Ideal) ℓ)

/-- What a grid point leaves in its output block is the reference's result at the place of the block. -/
theorem outBlock_ref (c : Dev nD) (t : Fin cfg0.N) (y : S1x256x256.Idx)
    (x : Vec Ideal S8x8192x1024 .fp8e4m3) (k v : Vec Ideal S8x8192x256 .fp8e4m3) (qs : Vec Ideal S16 .f32) (ks vs : Vec Ideal S4 .f32)
    (hx : m ((c : Thread nD τ).loc main_arg0) = x) (hk : m ((c : Thread nD τ).loc main_arg1) = k) (hv : m ((c : Thread nD τ).loc main_arg2) = v)
    (hqs : m ((c : Thread nD τ).loc main_arg3) = qs) (hks : m ((c : Thread nD τ).loc main_arg4) = ks) (hvs : m ((c : Thread nD τ).loc main_arg5) = vs) :
    outBlock (F := Ideal) (grid0.coords t) (iblk m c 0 t) (iblk m c 1 t) (iblk m c 2 t) (iblk m c 3 t) (iblk m c 4 t) y
      = Cert.ReferenceIdeal.Value.G6 (F := Ideal) x k v qs ks vs (((cfg0.win 5).blk t).view.emb y) := by
  have h1 : (y 1).val < 256 := (y 1).isLt
  have h2 : (y 2).val < 256 := (y 2).isLt
  have i1 : (grid0.coords t 1).val < 32 := (grid0.coords t 1).isLt
  have i2 : (grid0.coords t 2).val < 4 := (grid0.coords t 2).isLt
  rw [out_emb]
  refine Eq.trans ?_ (Cert.ReferenceIdeal.Gen.G6_at x k v qs ks vs (grid0.coords t 0) ⟨256 * (grid0.coords t 1).val + (y 1).val, by omega⟩
    (grid0.coords t 2) ⟨(y 2).val / 64, by omega⟩ ⟨(y 2).val % 64, by omega⟩ ⟨256 * (grid0.coords t 2).val + (y 2).val, by omega⟩
    (by show 256 * (grid0.coords t 2).val + (y 2).val = 256 * (grid0.coords t 2).val + 64 * ((y 2).val / 64) + (y 2).val % 64; omega)).symm
  refine (outBlock_at (F := Ideal) (grid0.coords t) (iblk m c 0 t) (iblk m c 1 t) (iblk m c 2 t) (iblk m c 3 t) (iblk m c 4 t)
    ⟨(y 2).val / 64, by omega⟩ (ix3 0 (y 1) ⟨(y 2).val % 64, by omega⟩) y rfl
    (by show (y 2).val = 64 * ((y 2).val / 64) + (y 2).val % 64; omega)).symm.trans ?_
  refine headOut_ref x k v qs ks _ _ _ (grid0.coords t 0) (grid0.coords t 1) (grid0.coords t 2) ⟨(y 2).val / 64, by omega⟩ (y 1)
    ⟨(y 2).val % 64, by omega⟩ ⟨256 * (grid0.coords t 1).val + (y 1).val, by omega⟩ rfl _ _ _ ?_ ?_ ?_ ?_ ?_
  · exact (value_scale m c t (grid0.coords t 2)).trans (by rw [hvs])
  · intro l C hC
    refine (query_block m c t (y 1) l).trans ?_
    rw [hx]
    exact congrArg (fun C : Fin 1024 => x (ix3 (grid0.coords t 0) ⟨256 * (grid0.coords t 1).val + (y 1).val, by omega⟩ C)) (Fin.ext hC.symm)
  · intro j l; exact (key_block m c t j l).trans (by rw [hk])
  · intro j l; exact (value_block m c t j l).trans (by rw [hv])
  · exact score_scale m c t (grid0.coords t 2) ⟨(y 2).val / 64, by omega⟩ _ (by show (grid0.coords t 2).val * 4 + (y 2).val / 64 = _; show _ = 4 * (grid0.coords t 2).val + (y 2).val / 64; omega) qs ks hqs hks

/-- A block written back is the array's block when it agrees with the array at every index. -/
theorem cut5_eq (t : Fin cfg0.N) (X : Vec Ideal S1x256x256 .bf16) (G : Vec Ideal S8x8192x1024 .bf16)
    (h : ∀ y : S1x256x256.Idx, X y = G (((cfg0.win 5).blk t).view.emb y)) :
    (cfg0.win 5).cut (grid0.coords t) X = ((cfg0.win 5).blk t).view.read (Elt Ideal) G := by
  funext y
  exact h y

/-- The final array is any array with which every grid point's block agrees. -/
theorem final_of (c : Dev nD) (G : Vec Ideal S8x8192x1024 .bf16)
    (h : ∀ (t : Fin cfg0.N) (y : S1x256x256.Idx),
      outBlock (F := Ideal) (grid0.coords t) (iblk m c 0 t) (iblk m c 1 t) (iblk m c 2 t) (iblk m c 3 t) (iblk m c 4 t) y
        = G (((cfg0.win 5).blk t).view.emb y)) :
    (dats m 0 c).arrAt 5 cfg0.N = G := by
  refine (dats m 0 c).arrAt_eq_of_cover 5 G (fun t _ => ?_) out_covered
  rw [Cert.KernelIdeal.Value.flushed5_A, out_eq]
  exact cut5_eq t _ G (h t)

/-- The kernel's result array is the reference's function of the arguments. -/
theorem final5 (c : Dev nD)
    (x : Vec Ideal S8x8192x1024 .fp8e4m3) (k v : Vec Ideal S8x8192x256 .fp8e4m3) (qs : Vec Ideal S16 .f32) (ks vs : Vec Ideal S4 .f32)
    (hx : m ((c : Thread nD τ).loc main_arg0) = x) (hk : m ((c : Thread nD τ).loc main_arg1) = k) (hv : m ((c : Thread nD τ).loc main_arg2) = v)
    (hqs : m ((c : Thread nD τ).loc main_arg3) = qs) (hks : m ((c : Thread nD τ).loc main_arg4) = ks) (hvs : m ((c : Thread nD τ).loc main_arg5) = vs) :
    (dats m 0 c).arrAt 5 cfg0.N = Cert.ReferenceIdeal.Value.G6 (F := Ideal) x k v qs ks vs :=
  final_of m c (Cert.ReferenceIdeal.Value.G6 (F := Ideal) x k v qs ks vs) fun t y =>
    outBlock_ref m c t y x k v qs ks vs hx hk hv hqs hks hvs

end Cert.KernelIdeal.Gen
end
-- ==== Proof.lean ====
/-
The proof of `Cert.Claim`: the three programs run without fault and keep their arguments, the ideal kernel is the
kernel with its two named constants, and the ideal kernel and the reference leave the same array. The witnesses of the
programs' stated facts come first.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Attn.Final
public import Idealize.ShloMosaic.Adequacy
public import Idealize.ShloMosaic.Init

@[expose] public section

noncomputable section

namespace Cert.Proof

open Idealize.ShloMosaic Idealize.SL.Sem Cert.Kernel

/-- The ideal kernel and the reference, launched with the same arguments, leave the same result array and keep them. -/
theorem algebraic : Cert.algebraic_KernelIdeal_ReferenceIdeal := by
  intro m g m' g' _ agree
  refine ⟨fun c => Cert.ReferenceIdeal.Value.G6 (F := Ideal) (m' ((c.tc : Thread _ _).loc Cert.ReferenceIdeal.main_arg0)) (m' ((c.tc : Thread _ _).loc Cert.ReferenceIdeal.main_arg1))
    (m' ((c.tc : Thread _ _).loc Cert.ReferenceIdeal.main_arg2)) (m' ((c.tc : Thread _ _).loc Cert.ReferenceIdeal.main_arg3))
    (m' ((c.tc : Thread _ _).loc Cert.ReferenceIdeal.main_arg4)) (m' ((c.tc : Thread _ _).loc Cert.ReferenceIdeal.main_arg5)), ?_, ?_⟩
  · refine (θ_run _ _ _).mono (fun r h c => ?_) (Cert.KernelIdeal.Value.run_blocks m g)
    obtain ⟨a0, a1, a2, a3, a4, a5⟩ := agree c
    exact ⟨(h c).1.trans (Cert.KernelIdeal.Gen.final5 m c _ _ _ _ _ _ a0.symm a1.symm a2.symm a3.symm a4.symm a5.symm), (h c).2⟩
  · exact Cert.ReferenceIdeal.Value.run m' g'

/-- The certificate's claim: three frames, the named constants, and the equality of the two results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  ⟨IdealRules.named_const.statement Cert.KernelIdeal.κ "score_unit" .f32 0x3E38AA3B#32 (((1 / 8) * (Real.log 2)⁻¹ : ℝ) : EReal) rfl,
   IdealRules.named_const.statement Cert.KernelIdeal.κ "mask" .f32 0xF149F2CA#32 ⊥ rfl⟩,
  algebraic⟩

end Cert.Proof

end
